-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S64x1280 Cert.KernelIdeal.S32x1280

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34_0) = v0 c
          ∧ r.2.mem ((c.tc : Thread Cert.ReferenceIdeal.nD Cert.ReferenceIdeal.τ).loc Cert.ReferenceIdeal.main_v34_1) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x8192x1280 : Shape := ⟨3, ![3, 8192, 1280]⟩
abbrev S3072x1280x3 : Shape := ⟨3, ![3072, 1280, 3]⟩
abbrev S3072 : Shape := ⟨1, ![3072]⟩
abbrev S_ : Shape := ⟨0, ![]⟩

class Facts : Prop where
  bcast_S_S3x8192x1280 : S_.BroadcastsInDim S3x8192x1280 (![] : Fin 0 → Fin S3x8192x1280.rank)
  reducesTo_S3x8192x1280_S_d0_1_2 : S3x8192x1280.ReducesTo [0, 1, 2] S_
  h_S_ : 0 < S_.numel

variable [Facts]

def fn {F : FTy → Type} [FloatOps F] (main_arg0 : FVec F S3x8192x1280 .bf16) (main_arg1 : FVec F S3072x1280x3 .fp8e4m3) (main_arg2 : FVec F S3072 .f32) (main_arg3 : FVec F S3072 .f32) : IVec S_ 1 :=
  let main_v0 : FVec F S3x8192x1280 .bf16 := Host.absf main_arg0
  let main_cst : FVec F S_ .bf16 := constant S_ .bf16 0x7F7F#16
  let main_v1 : FVec F S3x8192x1280 .bf16 := broadcastInDim S3x8192x1280 ![] bcast_S_S3x8192x1280 main_cst
  let main_v2 : IVec S3x8192x1280 1 := cmpf .ole main_v0 main_v1
  let main_c : IVec S_ 1 := constantI S_ 1 1#1
  let main_v3 : IVec S_ 1 := (fun x v => Host.reduce IntOp.andi x v reducesTo_S3x8192x1280_S_d0_1_2 h_S_) main_v2 main_c
  main_v3
-- ==== Kernel.lean ====
abbrev S3x8192x1280 : Shape := ⟨3, ![3, 8192, 1280]⟩
abbrev S3072x1280x3 : Shape := ⟨3, ![3072, 1280, 3]⟩
abbrev S3072 : Shape := ⟨1, ![3072]⟩
abbrev S3x3072x1280 : Shape := ⟨3, ![3, 3072, 1280]⟩
abbrev S24576x1280 : Shape := ⟨2, ![24576, 1280]⟩
abbrev S1x3072 : Shape := ⟨2, ![1, 3072]⟩
abbrev S12288x3072 : Shape := ⟨2, ![12288, 3072]⟩
abbrev S12288x3840 : Shape := ⟨2, ![12288, 3840]⟩
abbrev S24x4x128 : Shape := ⟨3, ![24, 4, 128]⟩
abbrev S1024x1280 : Shape := ⟨2, ![1024, 1280]⟩
abbrev S512x3072 : Shape := ⟨2, ![512, 3072]⟩
abbrev S512x3840 : Shape := ⟨2, ![512, 3840]⟩
abbrev S1x4x128 : Shape := ⟨3, ![1, 4, 128]⟩
abbrev S512x128 : Shape := ⟨2, ![512, 128]⟩
abbrev S8x1280 : Shape := ⟨2, ![8, 1280]⟩
abbrev S32x1280 : Shape := ⟨2, ![32, 1280]⟩
abbrev S512x1280 : Shape := ⟨2, ![512, 1280]⟩
abbrev S64x1280 : Shape := ⟨2, ![64, 1280]⟩
abbrev S1x1280 : Shape := ⟨2, ![1, 1280]⟩
abbrev S32 : Shape := ⟨1, ![32]⟩
abbrev S32x1 : Shape := ⟨2, ![32, 1]⟩
abbrev S32x256 : Shape := ⟨2, ![32, 256]⟩
abbrev S32x128 : Shape := ⟨2, ![32, 128]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S1x512x1280 : Shape := ⟨3, ![1, 512, 1280]⟩
abbrev S512x512 : Shape := ⟨2, ![512, 512]⟩
abbrev S512x1 : Shape := ⟨2, ![512, 1]⟩
abbrev S1x512 : Shape := ⟨2, ![1, 512]⟩

abbrev nBuf : Space → Nat
  | .hbm => 11
  | .vmem => 14
  | .smem => 0
  | _ => 0

abbrev bufTy : (tb : Table) → Fin (tcTables nBuf tb) → BufTy
  | .hbm, ⟨0, _⟩ => ⟨S3x8192x1280, .bf16⟩
  | .hbm, ⟨1, _⟩ => ⟨S3072x1280x3, .fp8e4m3⟩
  | .hbm, ⟨2, _⟩ => ⟨S3072, .f32⟩
  | .hbm, ⟨3, _⟩ => ⟨S3072, .f32⟩
  | .hbm, ⟨4, _⟩ => ⟨S3x3072x1280, .fp8e4m3⟩
  | .hbm, ⟨5, _⟩ => ⟨S24576x1280, .bf16⟩
  | .hbm, ⟨6, _⟩ => ⟨S1x3072, .f32⟩
  | .hbm, ⟨7, _⟩ => ⟨S1x3072, .f32⟩
  | .hbm, ⟨8, _⟩ => ⟨S12288x3072, .bf16⟩
  | .hbm, ⟨9, _⟩ => ⟨S12288x3840, .fp8e4m3⟩
  | .hbm, ⟨10, _⟩ => ⟨S24x4x128, .f32⟩
  | .local _ .vmem, ⟨0, _⟩ => ⟨S1024x1280, .bf16⟩
  | .local _ .vmem, ⟨1, _⟩ => ⟨S1024x1280, .bf16⟩
  | .local _ .vmem, ⟨2, _⟩ => ⟨S3x3072x1280, .fp8e4m3⟩
  | .local _ .vmem, ⟨3, _⟩ => ⟨S1x3072, .f32⟩
  | .local _ .vmem, ⟨4, _⟩ => ⟨S1x3072, .f32⟩
  | .local _ .vmem, ⟨5, _⟩ => ⟨S512x3072, .bf16⟩
  | .local _ .vmem, ⟨6, _⟩ => ⟨S512x3072, .bf16⟩
  | .local _ .vmem, ⟨7, _⟩ => ⟨S512x3840, .fp8e4m3⟩
  | .local _ .vmem, ⟨8, _⟩ => ⟨S512x3840, .fp8e4m3⟩
  | .local _ .vmem, ⟨9, _⟩ => ⟨S1x4x128, .f32⟩
  | .local _ .vmem, ⟨10, _⟩ => ⟨S1x4x128, .f32⟩
  | .local _ .vmem, ⟨11, _⟩ => ⟨S512x3840, .bf16⟩
  | .local _ .vmem, ⟨12, _⟩ => ⟨S512x128, .f32⟩
  | .local _ .vmem, ⟨13, _⟩ => ⟨S8x1280, .f32⟩
  | _, _ => ⟨S3x8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![24], ![false]⟩

@[reducible] def k0_t1_loop : Scf.Loop 32 :=
  let c0_i32_6 : BitVec 32 := 0#32
  let c16_i32 : BitVec 32 := 16#32
  let v16 : BitVec 32 := Scalar.addi c0_i32_6 c16_i32
  let c1_i32_7 : BitVec 32 := 1#32
  ⟨c0_i32_6, v16, c1_i32_7⟩
def k0_mult1 (k0_t1 : Fin k0_t1_loop.trips) : BitVec 32 :=
  let c0_i32_6 : BitVec 32 := 0#32
  let c1_i32_7 : BitVec 32 := 1#32
  let arg11 : BitVec 32 := Scf.iv c0_i32_6 c1_i32_7 k0_t1
  let c32_i32 : BitVec 32 := 32#32
  let v280 : BitVec 32 := Scalar.muli arg11 c32_i32
  v280
def k0_off1 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c32_i32 : BitVec 32 := 32#32
  let v280 : BitVec 32 := Scalar.muli arg11 c32_i32
  let v281 : BitVec 32 := v280
  let v283 : Index := Scalar.indexCast v281
  let c0_197 : Index := 0#32
  ![Nat.mul 2 v283.toNat, 0]
def k0_off2 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c32_i32 : BitVec 32 := 32#32
  let v280 : BitVec 32 := Scalar.muli arg11 c32_i32
  let v281 : BitVec 32 := v280
  let v345 : Index := Scalar.indexCast v281
  let c0_213 : Index := 0#32
  ![v345.toNat, 0]
def k0_off3 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c32_i32 : BitVec 32 := 32#32
  let v280 : BitVec 32 := Scalar.muli arg11 c32_i32
  let v281 : BitVec 32 := v280
  let v356 : Index := Scalar.indexCast v281
  let c0_216 : Index := 0#32
  ![v356.toNat, 0]
def k0_off4 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c32_i32 : BitVec 32 := 32#32
  let v280 : BitVec 32 := Scalar.muli arg11 c32_i32
  let v281 : BitVec 32 := v280
  let v370 : Index := Scalar.indexCast v281
  let c1280_220 : Index := 1280#32
  ![v370.toNat, 1280]
def k0_off5 (k0_t1 : Fin k0_t1_loop.trips) : Fin 2 → Nat :=
  let c0_i32_6 : BitVec 32 := 0#32
  let c1_i32_7 : BitVec 32 := 1#32
  let arg11 : BitVec 32 := Scf.iv c0_i32_6 c1_i32_7 k0_t1
  let c32_i32 : BitVec 32 := 32#32
  let v280 : BitVec 32 := Scalar.muli arg11 c32_i32
  let v281 : BitVec 32 := v280
  let v384 : Index := Scalar.indexCast v281
  let c2560_224 : Index := 2560#32
  ![v384.toNat, 2560]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3072x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3840 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S3x8192x1280 : Shape := ⟨3, ![3, 8192, 1280]⟩
abbrev S3072x1280x3 : Shape := ⟨3, ![3072, 1280, 3]⟩
abbrev S3072 : Shape := ⟨1, ![3072]⟩
abbrev S3x4096x2560 : Shape := ⟨3, ![3, 4096, 2560]⟩
abbrev S3x4096x1280 : Shape := ⟨3, ![3, 4096, 1280]⟩
abbrev S3x4095x1280 : Shape := ⟨3, ![3, 4095, 1280]⟩
abbrev S_ : Shape := ⟨0, ![]⟩
abbrev S3x4096x3840 : Shape := ⟨3, ![3, 4096, 3840]⟩
abbrev S3x4096 : Shape := ⟨2, ![3, 4096]⟩
abbrev S3x1280x3072 : Shape := ⟨3, ![3, 1280, 3072]⟩
abbrev S3840x3072 : Shape := ⟨2, ![3840, 3072]⟩
abbrev S24x4x128 : Shape := ⟨3, ![24, 4, 128]⟩
abbrev S12288x3840 : Shape := ⟨2, ![12288, 3840]⟩
abbrev S12288x1 : Shape := ⟨2, ![12288, 1]⟩
abbrev S1x3072 : Shape := ⟨2, ![1, 3072]⟩
abbrev S12288x3072 : Shape := ⟨2, ![12288, 3072]⟩

abbrev nBuf : Space → Nat
  | .hbm => 52
  | .vmem => 8
  | .smem => 0
  | _ => 0

abbrev bufTy : (tb : Table) → Fin (tcTables nBuf tb) → BufTy
  | .hbm, ⟨0, _⟩ => ⟨S3x8192x1280, .bf16⟩
  | .hbm, ⟨1, _⟩ => ⟨S3072x1280x3, .fp8e4m3⟩
  | .hbm, ⟨2, _⟩ => ⟨S3072, .f32⟩
  | .hbm, ⟨3, _⟩ => ⟨S3072, .f32⟩
  | .hbm, ⟨4, _⟩ => ⟨S3x4096x2560, .bf16⟩
  | .hbm, ⟨5, _⟩ => ⟨S3x4096x1280, .bf16⟩
  | .hbm, ⟨6, _⟩ => ⟨S3x4095x1280, .bf16⟩
  | .hbm, ⟨7, _⟩ => ⟨S_, .i32⟩
  | .hbm, ⟨8, _⟩ => ⟨S_, .bf16⟩
  | .hbm, ⟨9, _⟩ => ⟨S3x4096x1280, .bf16⟩
  | .hbm, ⟨10, _⟩ => ⟨S3x4096x3840, .bf16⟩
  | .hbm, ⟨11, _⟩ => ⟨S3x4096x3840, .f32⟩
  | .hbm, ⟨12, _⟩ => ⟨S3x4096x3840, .f32⟩
  | .hbm, ⟨13, _⟩ => ⟨S_, .f32⟩
  | .hbm, ⟨14, _⟩ => ⟨S3x4096, .f32⟩
  | .hbm, ⟨15, _⟩ => ⟨S_, .f32⟩
  | .hbm, ⟨16, _⟩ => ⟨S3x4096, .f32⟩
  | .hbm, ⟨17, _⟩ => ⟨S3x4096, .f32⟩
  | .hbm, ⟨18, _⟩ => ⟨S3x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S3x4096, .f32⟩
  | .hbm, ⟨23, _⟩ => ⟨S3x4096, .f32⟩
  | .hbm, ⟨24, _⟩ => ⟨S3x4096, .f32⟩
  | .hbm, ⟨25, _⟩ => ⟨S_, .f32⟩
  | .hbm, ⟨26, _⟩ => ⟨S3x4096, .f32⟩
  | .hbm, ⟨27, _⟩ => ⟨S3x4096, .f32⟩
  | .hbm, ⟨28, _⟩ => ⟨S_, .f32⟩
  | .hbm, ⟨29, _⟩ => ⟨S3x4096, .f32⟩
  | .hbm, ⟨30, _⟩ => ⟨S3x4096, .i1⟩
  | .hbm, ⟨31, _⟩ => ⟨S_, .f32⟩
  | .hbm, ⟨32, _⟩ => ⟨S_, .f32⟩
  | .hbm, ⟨33, _⟩ => ⟨S3x4096, .f32⟩
  | .hbm, ⟨34, _⟩ => ⟨S3x4096, .f32⟩
  | .hbm, ⟨35, _⟩ => ⟨S_, .f32⟩
  | .hbm, ⟨36, _⟩ => ⟨S3x4096, .f32⟩
  | .hbm, ⟨37, _⟩ => ⟨S3x4096, .f32⟩
  | .hbm, ⟨38, _⟩ => ⟨S3x4096, .f32⟩
  | .hbm, ⟨39, _⟩ => ⟨S_, .f32⟩
  | .hbm, ⟨40, _⟩ => ⟨S3x4096, .f32⟩
  | .hbm, ⟨41, _⟩ => ⟨S3x4096, .f32⟩
  | .hbm, ⟨42, _⟩ => ⟨S3x1280x3072, .fp8e4m3⟩
  | .hbm, ⟨43, _⟩ => ⟨S3840x3072, .fp8e4m3⟩
  | .hbm, ⟨44, _⟩ => ⟨S24x4x128, .f32⟩
  | .hbm, ⟨45, _⟩ => ⟨S12288x3840, .f32⟩
  | .hbm, ⟨46, _⟩ => ⟨S12288x1, .f32⟩
  | .hbm, ⟨47, _⟩ => ⟨S12288x1, .f32⟩
  | .hbm, ⟨48, _⟩ => ⟨S1x3072, .f32⟩
  | .hbm, ⟨49, _⟩ => ⟨S1x3072, .f32⟩
  | .hbm, ⟨50, _⟩ => ⟨S12288x3072, .bf16⟩
  | .hbm, ⟨51, _⟩ => ⟨S12288x3840, .fp8e4m3⟩
  | .local _ .vmem, ⟨0, _⟩ => ⟨S12288x3840, .f32⟩
  | .local _ .vmem, ⟨1, _⟩ => ⟨S12288x1, .f32⟩
  | .local _ .vmem, ⟨2, _⟩ => ⟨S12288x1, .f32⟩
  | .local _ .vmem, ⟨3, _⟩ => ⟨S3840x3072, .fp8e4m3⟩
  | .local _ .vmem, ⟨4, _⟩ => ⟨S1x3072, .f32⟩
  | .local _ .vmem, ⟨5, _⟩ => ⟨S1x3072, .f32⟩
  | .local _ .vmem, ⟨6, _⟩ => ⟨S12288x3072, .bf16⟩
  | .local _ .vmem, ⟨7, _⟩ => ⟨S12288x3840, .fp8e4m3⟩
  | _, _ => ⟨S3x8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12288x3840 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x3840 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelFrame.lean ====
/- The frame of the kernel as printed at bit patterns: it runs to an end from every memory, leaves its argument
   arrays as they were, and ends with every semaphore counter at zero. Nothing is said here of what it computes: the
   outputs and the scratch buffers are held at some contents before and after each grid point. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x3072x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x3840 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x3840 .bf16 := Memref.whole cc0_scratch0
abbrev scM0_1 : Memref sig .tc .vmem S512x128 .f32 := Memref.whole cc0_scratch1
abbrev scM0_2 : Memref sig .tc .vmem S8x1280 .f32 := Memref.whole cc0_scratch2
/-- The scratch `arg10` the kernel carries between points, as a view: what it holds is stated through it. -/
abbrev VS0_2 : View sig .tc .vmem S8x1280 .f32 := scM0_2.view

/-- The frame kit's invariant with the scratch operands as memrefs owned at some contents : what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

variable (m : (ℓ : Loc nD τ sig) → Buf (Elt F) ℓ) (ρ : Dev nD → PrngReg)

set_option maxHeartbeats 4000000 in
/-- The body at a grid point where the carried row is zeroed first: on whole buffers, the inputs' at given contents and every other
    at some contents, it runs to the end and hands every buffer back, the inputs' unchanged. -/
theorem body_A (c : Dev nD) (i : grid0.Coords) (arg1 : Memref sig .tc .vmem S1024x1280 .bf16) (harg1 : arg1.IsWhole) (arg2 : Memref sig .tc .vmem S3x3072x1280 .fp8e4m3) (harg2 : arg2.IsWhole) (arg3 : Memref sig .tc .vmem S1x3072 .f32) (harg3 : arg3.IsWhole) (arg4 : Memref sig .tc .vmem S1x3072 .f32) (harg4 : arg4.IsWhole) (arg5 : Memref sig .tc .vmem S512x3072 .bf16) (harg5 : arg5.IsWhole) (arg6 : Memref sig .tc .vmem S512x3840 .fp8e4m3) (harg6 : arg6.IsWhole) (arg7 : Memref sig .tc .vmem S1x4x128 .f32) (harg7 : arg7.IsWhole) (arg8 : Memref sig .tc .vmem S512x3840 .bf16) (harg8 : arg8.IsWhole) (arg9 : Memref sig .tc .vmem S512x128 .f32) (harg9 : arg9.IsWhole) (arg10 : Memref sig .tc .vmem S8x1280 .f32) (harg10 : arg10.IsWhole) (hc0 : cond0_0 i)
    (x0 : Vec F S1024x1280 .bf16) (x1 : Vec F S3x3072x1280 .fp8e4m3) (x2 : Vec F S1x3072 .f32) (x3 : Vec F S1x3072 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_conv_gelu i arg1 harg1 arg2 harg2 arg3 harg3 arg4 harg4 arg5 harg5 arg6 harg6 arg7 harg7 arg8 harg8 arg9 harg9 arg10 harg10) K := by
  simp only [cc0_conv_gelu_eq_skeleton]; unfold cc0_conv_gelu_skel
  simp only [k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

set_option maxHeartbeats 4000000 in
/-- The body at a grid point where the carried row is kept: on whole buffers, the inputs' at given contents and every other
    at some contents, it runs to the end and hands every buffer back, the inputs' unchanged. -/
theorem body_B (c : Dev nD) (i : grid0.Coords) (arg1 : Memref sig .tc .vmem S1024x1280 .bf16) (harg1 : arg1.IsWhole) (arg2 : Memref sig .tc .vmem S3x3072x1280 .fp8e4m3) (harg2 : arg2.IsWhole) (arg3 : Memref sig .tc .vmem S1x3072 .f32) (harg3 : arg3.IsWhole) (arg4 : Memref sig .tc .vmem S1x3072 .f32) (harg4 : arg4.IsWhole) (arg5 : Memref sig .tc .vmem S512x3072 .bf16) (harg5 : arg5.IsWhole) (arg6 : Memref sig .tc .vmem S512x3840 .fp8e4m3) (harg6 : arg6.IsWhole) (arg7 : Memref sig .tc .vmem S1x4x128 .f32) (harg7 : arg7.IsWhole) (arg8 : Memref sig .tc .vmem S512x3840 .bf16) (harg8 : arg8.IsWhole) (arg9 : Memref sig .tc .vmem S512x128 .f32) (harg9 : arg9.IsWhole) (arg10 : Memref sig .tc .vmem S8x1280 .f32) (harg10 : arg10.IsWhole) (hc0 : ¬cond0_0 i)
    (x0 : Vec F S1024x1280 .bf16) (x1 : Vec F S3x3072x1280 .fp8e4m3) (x2 : Vec F S1x3072 .f32) (x3 : Vec F S1x3072 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_conv_gelu i arg1 harg1 arg2 harg2 arg3 harg3 arg4 harg4 arg5 harg5 arg6 harg6 arg7 harg7 arg8 harg8 arg9 harg9 arg10 harg10) K := by
  simp only [cc0_conv_gelu_eq_skeleton]; unfold cc0_conv_gelu_skel
  simp only [k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-- The output windows, of whose contents nothing is said. -/
def forgets0 : Fin 7 → Bool := fun w => w.val == 4 || w.val == 5 || w.val == 6

/-- What the one pipeline holds on core `c`: the arrays as the region finds them; after the body each input's buffer
    at its block; between points every scratch buffer at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- Input 1 keeps its block through a step. -/
theorem after0_1 (c : Dev nD) (t : Fin cfg0.N) : (dats m 0 c).after 1 t = iblk m c 1 t := by dsimp only [dats]
/-- Input 2 keeps its block through a step. -/
theorem after0_2 (c : Dev nD) (t : Fin cfg0.N) : (dats m 0 c).after 2 t = iblk m c 2 t := by dsimp only [dats]
/-- Input 3 keeps its block through a step. -/
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Input 1 holds its block when a step begins. -/
theorem before0_1 (c : Dev nD) (t : Fin cfg0.N) (d) : (dats m 0 c).before 1 t d = iblk m c 1 t :=
  before0_1_of m (dats m 0 c) (A_eq m c 1) (after0_1 m c) t d
/-- Input 2 holds its block when a step begins. -/
theorem before0_2 (c : Dev nD) (t : Fin cfg0.N) (d) : (dats m 0 c).before 2 t d = iblk m c 2 t :=
  before0_2_of m (dats m 0 c) (A_eq m c 2) (after0_2 m c) t d
/-- Input 3 holds its block when a step begins. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1000000 in
/-- The body at any grid point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = Pipeline.ΦA spec0 c from rfl, show (dats m 0 c).Φ t.castSucc = Pipeline.ΦA spec0 c from rfl, PhiA0_eq]
  have run : ∀ (K : PUnit → sProp 𝕄), iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) scM0_0 fullShare d) ∗ (∃ d, owns (c : Thread nD τ) scM0_1 fullShare d) ∗ (∃ d, owns (c : Thread nD τ) scM0_2 fullShare d)
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) scM0_0 fullShare d) ∗ (∃ d, owns (c : Thread nD τ) scM0_1 fullShare d) ∗ (∃ d, owns (c : Thread nD τ) scM0_2 fullShare d)) -∗ K ⟨⟩))
      ⊢ wp frame (wpE (defs₀ (F := F)) Variants.none c none) Set.univ (bodyAt0 t) K := by
    intro K
    by_cases h0 : cond0_0 (grid0.coords t)
    · exact body_A c (grid0.coords t) _ _ _ _ _ _ _ _ _ _ _ _ _ _ _ _ _ _ _ _ h0 _ _ _ _ Set.univ K
    · exact body_B c (grid0.coords t) _ _ _ _ _ _ _ _ _ _ _ _ _ _ _ _ _ _ _ _ h0 _ _ _ _ Set.univ K
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (run _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- The invariant after the last point gives it back. -/
theorem hout (c : Dev nD) : (dats m 0 c).Φ (Fin.last cfg0.N) ⊢ Pipeline.ΦA spec0 c := by
  rw [show (dats m 0 c).Φ (Fin.last cfg0.N) = Pipeline.ΦA spec0 c from rfl]

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- For any values, from any memory with zero counters: every weakly fair execution of @main on the
    TensorCores terminates, and every final state has every INPUT array of the pipeline unchanged, nothing stated of the
    FORGOTTEN outputs (windows 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

/-- THE FRAME: `Cert.quiescent_Kernel`'s statement (Defs.lean) at any `F` — cited at bit patterns. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.Loop.lean ====
/- The loop of the idealized kernel over the 16 groups of 32 rows of a block, with what it leaves in every buffer.

   One trip reads 64 rows of the input block (32 even, 32 odd) and the carried odd row, writes the trip's 32 rows of
   codes, of dequantised codes and of scales, and carries its own last odd row on. The invariant of the loop states
   these contents as a recursion over the trips before; `codes`, `codesB`, `scales` and `carry` are its closed form. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.ValueKit
public import Idealize.ShloMosaic.Lib.VecWindow
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The 64 input rows trip `k` reads. -/
def raw (x : Vec F S1024x1280 .bf16) (k : Fin k0_t1_loop.trips) : Vec F S64x1280 .bf16 :=
  View.ld x (Rect.unit (s := S1024x1280) (k0_off1 k) S64x1280.size (k0_off1_inb k))

/-- The carried odd row (eight copies of it) before trip `k`: what the block found, then the last odd row of the
    trip before. -/
def carry (x : Vec F S1024x1280 .bf16) (xs : Vec F S8x1280 .f32) : ℕ → Vec F S8x1280 .f32
  | 0 => xs
  | k + 1 => if h : k < k0_t1_loop.trips then k0_pay5 (raw x ⟨k, h⟩) else carry x xs k

/-- The previous-row term of trip `k`'s windows, from the carried row `c`. -/
abbrev prevT (x : Vec F S1024x1280 .bf16) (c : Vec F S8x1280 .f32) (k : Fin k0_t1_loop.trips) : FVec F S32x1280 .f32 := k0_pay4 k0_pay15 (raw x k) c
/-- The exponent field of the scale of each of trip `k`'s rows, before the adjustment at its two ends. -/
abbrev biasT (x : Vec F S1024x1280 .bf16) (c : Vec F S8x1280 .f32) (k : Fin k0_t1_loop.trips) : IVec S32x1 32 := k0_pay6 k0_pay15 (raw x k) c

/-- What trip `k` writes of the codes. -/
def p6 (x : Vec F S1024x1280 .bf16) (c : Vec F S8x1280 .f32) (k : Fin k0_t1_loop.trips) : List (View.Piece (Elt F) S512x3840 .fp8e4m3) :=
  [⟨Rect.unit (s := S512x3840) (k0_off5 k) S32x1280.size (k0_off5_inb k), k0_pay18 (k0_pay3 (raw x k)) (k0_pay8 (biasT x c k))⟩,
   ⟨Rect.unit (s := S512x3840) (k0_off4 k) S32x1280.size (k0_off4_inb k), k0_pay16 (k0_pay12 (k0_pay2 (raw x k)) (biasT x c k)) (Scalar.ofBits .f32 0x43E00000#32) k0_pay13⟩,
   ⟨Rect.unit (s := S512x3840) (k0_off3 k) S32x1280.size (k0_off3_inb k), k0_pay10 (prevT x c k) (biasT x c k)⟩]
/-- What trip `k` writes of the codes at the wider format. -/
def p8 (x : Vec F S1024x1280 .bf16) (c : Vec F S8x1280 .f32) (k : Fin k0_t1_loop.trips) : List (View.Piece (Elt F) S512x3840 .bf16) :=
  [⟨Rect.unit (s := S512x3840) (k0_off5 k) S32x1280.size (k0_off5_inb k), k0_pay19 (k0_pay3 (raw x k)) (k0_pay8 (biasT x c k))⟩,
   ⟨Rect.unit (s := S512x3840) (k0_off4 k) S32x1280.size (k0_off4_inb k), k0_pay17 (k0_pay12 (k0_pay2 (raw x k)) (biasT x c k)) (Scalar.ofBits .f32 0x43E00000#32) k0_pay13⟩,
   ⟨Rect.unit (s := S512x3840) (k0_off3 k) S32x1280.size (k0_off3_inb k), k0_pay11 (prevT x c k) (biasT x c k)⟩]
/-- What trip `k` writes of the scales. -/
def p9 (x : Vec F S1024x1280 .bf16) (c : Vec F S8x1280 .f32) (k : Fin k0_t1_loop.trips) : List (View.Piece (Elt F) S512x128 .f32) :=
  [⟨Rect.unit (s := S512x128) (k0_off2 k) S32x128.size (k0_off2_inb k), k0_pay9 (biasT x c k)⟩]
/-- What trip `k` writes of the carried row. -/
def p10 (x : Vec F S1024x1280 .bf16) (k : Fin k0_t1_loop.trips) : List (View.Piece (Elt F) S8x1280 .f32) :=
  [⟨Rect.unit (s := S8x1280) ![0, 0] S8x1280.size inb_S8x1280_S8x1280_0_0, k0_pay5 (raw x k)⟩]

/-- The carried row read whole. -/
abbrev ldC (c : Vec F S8x1280 .f32) : Vec F S8x1280 .f32 := View.ld c (Rect.unit (s := S8x1280) ![0, 0] S8x1280.size inb_S8x1280_S8x1280_0_0)

/-- A load of the whole carried row reads it. -/
theorem ldC_eq (c : Vec F S8x1280 .f32) : ldC c = c := View.ld_unit_zero (by funext a; fin_cases a <;> rfl) _ _

/-- The buffers a trip touches, at given contents. -/
abbrev Trip (c : Dev nD) (arg1 : Memref sig .tc .vmem S1024x1280 .bf16) (arg6 : Memref sig .tc .vmem S512x3840 .fp8e4m3) (arg8 : Memref sig .tc .vmem S512x3840 .bf16) (arg9 : Memref sig .tc .vmem S512x128 .f32) (arg10 : Memref sig .tc .vmem S8x1280 .f32) (X1 : BufTy.Contents (Elt F) arg1.view.ty) (f6 : BufTy.Contents (Elt F) arg6.view.ty) (f8 : BufTy.Contents (Elt F) arg8.view.ty) (f9 : BufTy.Contents (Elt F) arg9.view.ty) (f10 : BufTy.Contents (Elt F) arg10.view.ty) : sProp 𝕄G :=
  iprop((arg1.view.loc (c : Thread nD τ) ↦[arg1.view.set]{fullShare} X1) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

set_option maxHeartbeats 4000000 in
/-- One trip: from any contents, each buffer it writes ends with the trip's pieces written over it. -/
theorem trip (𝒱 : Variants) (c : Dev nD) (bd : Option 𝒱.V) (i : grid0.Coords) (arg1 : Memref sig .tc .vmem S1024x1280 .bf16) (harg1 : arg1.IsWhole) (arg2 : Memref sig .tc .vmem S3x3072x1280 .fp8e4m3) (harg2 : arg2.IsWhole) (arg3 : Memref sig .tc .vmem S1x3072 .f32) (harg3 : arg3.IsWhole) (arg4 : Memref sig .tc .vmem S1x3072 .f32) (harg4 : arg4.IsWhole) (arg5 : Memref sig .tc .vmem S512x3072 .bf16) (harg5 : arg5.IsWhole) (arg6 : Memref sig .tc .vmem S512x3840 .fp8e4m3) (harg6 : arg6.IsWhole) (arg7 : Memref sig .tc .vmem S1x4x128 .f32) (harg7 : arg7.IsWhole) (arg8 : Memref sig .tc .vmem S512x3840 .bf16) (harg8 : arg8.IsWhole) (arg9 : Memref sig .tc .vmem S512x128 .f32) (harg9 : arg9.IsWhole) (arg10 : Memref sig .tc .vmem S8x1280 .f32) (harg10 : arg10.IsWhole) (E : Set ℕ) (X1 : BufTy.Contents (Elt F) arg1.view.ty) (k : Fin k0_t1_loop.trips) (f6 : BufTy.Contents (Elt F) arg6.view.ty) (f8 : BufTy.Contents (Elt F) arg8.view.ty) (f9 : BufTy.Contents (Elt F) arg9.view.ty) (f10 : BufTy.Contents (Elt F) arg10.view.ty) :
    Trip (F := F) c arg1 arg6 arg8 arg9 arg10 X1 f6 f8 f9 f10
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 k PUnit.unit)
          (fun _ => Trip (F := F) c arg1 arg6 arg8 arg9 arg10 X1 (arg6.view.writes (Elt F) f6 (p6 (arg1.view.read (Elt F) X1) (ldC (arg10.view.read (Elt F) f10)) k)) (arg8.view.writes (Elt F) f8 (p8 (arg1.view.read (Elt F) X1) (ldC (arg10.view.read (Elt F) f10)) k)) (arg9.view.writes (Elt F) f9 (p9 (arg1.view.read (Elt F) X1) (ldC (arg10.view.read (Elt F) f10)) k)) (arg10.view.writes (Elt F) f10 (p10 (arg1.view.read (Elt F) X1) k))) := by
  have hk : k.val < 16 := Nat.lt_of_lt_of_le k.isLt k0_t1_abs.2.1
  unfold k0_t1_body
  iintro ⟨HR_arg1, HW_arg6, HW_arg8, HW_arg9, HW_arg10⟩
  sl_exec
  sl_step
  isplitl [HR_arg1]; · iexact HR_arg1
  isplitl [HW_arg6]; · iexact HW_arg6
  isplitl [HW_arg8]; · iexact HW_arg8
  isplitl [HW_arg9]; · iexact HW_arg9
  iexact HW_arg10

/-- The contents of the carried row's buffer before trip `k`. -/
def st10 (arg10 : Memref sig .tc .vmem S8x1280 .f32) (x : Vec F S1024x1280 .bf16) (G : BufTy.Contents (Elt F) arg10.view.ty) : ℕ → BufTy.Contents (Elt F) arg10.view.ty
  | 0 => G
  | k + 1 => if h : k < k0_t1_loop.trips then arg10.view.writes (Elt F) (st10 arg10 x G k) (p10 x ⟨k, h⟩) else st10 arg10 x G k
/-- The contents of the code buffer before trip `k`. -/
def st6 (arg6 : Memref sig .tc .vmem S512x3840 .fp8e4m3) (x : Vec F S1024x1280 .bf16) (xs : Vec F S8x1280 .f32) (G : BufTy.Contents (Elt F) arg6.view.ty) : ℕ → BufTy.Contents (Elt F) arg6.view.ty
  | 0 => G
  | k + 1 => if h : k < k0_t1_loop.trips then arg6.view.writes (Elt F) (st6 arg6 x xs G k) (p6 x (carry x xs k) ⟨k, h⟩) else st6 arg6 x xs G k
/-- The contents of the widened codes' buffer before trip `k`. -/
def st8 (arg8 : Memref sig .tc .vmem S512x3840 .bf16) (x : Vec F S1024x1280 .bf16) (xs : Vec F S8x1280 .f32) (G : BufTy.Contents (Elt F) arg8.view.ty) : ℕ → BufTy.Contents (Elt F) arg8.view.ty
  | 0 => G
  | k + 1 => if h : k < k0_t1_loop.trips then arg8.view.writes (Elt F) (st8 arg8 x xs G k) (p8 x (carry x xs k) ⟨k, h⟩) else st8 arg8 x xs G k
/-- The contents of the scale buffer before trip `k`. -/
def st9 (arg9 : Memref sig .tc .vmem S512x128 .f32) (x : Vec F S1024x1280 .bf16) (xs : Vec F S8x1280 .f32) (G : BufTy.Contents (Elt F) arg9.view.ty) : ℕ → BufTy.Contents (Elt F) arg9.view.ty
  | 0 => G
  | k + 1 => if h : k < k0_t1_loop.trips then arg9.view.writes (Elt F) (st9 arg9 x xs G k) (p9 x (carry x xs k) ⟨k, h⟩) else st9 arg9 x xs G k

/-- What the carried row's buffer reads before trip `k`. -/
theorem read_st10 (arg10 : Memref sig .tc .vmem S8x1280 .f32) (x : Vec F S1024x1280 .bf16) (G : BufTy.Contents (Elt F) arg10.view.ty) (k : ℕ) :
    arg10.view.read (Elt F) (st10 arg10 x G k) = carry x (arg10.view.read (Elt F) G) k := by
  induction k with
  | zero => rfl
  | succ k ih =>
    unfold st10 carry
    split
    · exact View.read_writes_full _ _ _ _ _
    · exact ih

/-- The invariant before trip `k`. -/
abbrev inv (𝒱 : Variants) (c : Dev nD) (bd : Option 𝒱.V) (i : grid0.Coords) (arg1 : Memref sig .tc .vmem S1024x1280 .bf16) (harg1 : arg1.IsWhole) (arg2 : Memref sig .tc .vmem S3x3072x1280 .fp8e4m3) (harg2 : arg2.IsWhole) (arg3 : Memref sig .tc .vmem S1x3072 .f32) (harg3 : arg3.IsWhole) (arg4 : Memref sig .tc .vmem S1x3072 .f32) (harg4 : arg4.IsWhole) (arg5 : Memref sig .tc .vmem S512x3072 .bf16) (harg5 : arg5.IsWhole) (arg6 : Memref sig .tc .vmem S512x3840 .fp8e4m3) (harg6 : arg6.IsWhole) (arg7 : Memref sig .tc .vmem S1x4x128 .f32) (harg7 : arg7.IsWhole) (arg8 : Memref sig .tc .vmem S512x3840 .bf16) (harg8 : arg8.IsWhole) (arg9 : Memref sig .tc .vmem S512x128 .f32) (harg9 : arg9.IsWhole) (arg10 : Memref sig .tc .vmem S8x1280 .f32) (harg10 : arg10.IsWhole) (X1 : BufTy.Contents (Elt F) arg1.view.ty) (G6 : BufTy.Contents (Elt F) arg6.view.ty) (G8 : BufTy.Contents (Elt F) arg8.view.ty) (G9 : BufTy.Contents (Elt F) arg9.view.ty) (G10 : BufTy.Contents (Elt F) arg10.view.ty) (k : ℕ) (_u : PUnit) : sProp 𝕄G :=
  iprop((arg1.view.loc (c : Thread nD τ) ↦[arg1.view.set]{fullShare} X1)
    ∗ (∃ f, (arg6.view.loc (c : Thread nD τ) ↦[arg6.view.set]{fullShare} f) ∗ ⌜f = st6 arg6 (arg1.view.read (Elt F) X1) (arg10.view.read (Elt F) G10) G6 k⌝)
    ∗ (∃ f, (arg8.view.loc (c : Thread nD τ) ↦[arg8.view.set]{fullShare} f) ∗ ⌜f = st8 arg8 (arg1.view.read (Elt F) X1) (arg10.view.read (Elt F) G10) G8 k⌝)
    ∗ (∃ f, (arg9.view.loc (c : Thread nD τ) ↦[arg9.view.set]{fullShare} f) ∗ ⌜f = st9 arg9 (arg1.view.read (Elt F) X1) (arg10.view.read (Elt F) G10) G9 k⌝)
    ∗ (∃ f, (arg10.view.loc (c : Thread nD τ) ↦[arg10.view.set]{fullShare} f) ∗ ⌜f = st10 arg10 (arg1.view.read (Elt F) X1) G10 k⌝))

/-- What an invariant of this loop is, over the buffers a block works on. -/
abbrev LoopTy (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S1024x1280 .bf16) (harg1 : arg1.IsWhole) (arg2 : Memref sig .tc .vmem S3x3072x1280 .fp8e4m3) (harg2 : arg2.IsWhole) (arg3 : Memref sig .tc .vmem S1x3072 .f32) (harg3 : arg3.IsWhole) (arg4 : Memref sig .tc .vmem S1x3072 .f32) (harg4 : arg4.IsWhole) (arg5 : Memref sig .tc .vmem S512x3072 .bf16) (harg5 : arg5.IsWhole) (arg6 : Memref sig .tc .vmem S512x3840 .fp8e4m3) (harg6 : arg6.IsWhole) (arg7 : Memref sig .tc .vmem S1x4x128 .f32) (harg7 : arg7.IsWhole) (arg8 : Memref sig .tc .vmem S512x3840 .bf16) (harg8 : arg8.IsWhole) (arg9 : Memref sig .tc .vmem S512x128 .f32) (harg9 : arg9.IsWhole) (arg10 : Memref sig .tc .vmem S8x1280 .f32) (harg10 : arg10.IsWhole) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10)

set_option maxHeartbeats 4000000 in
set_option warn.classDefReducibility false in
/-- The loop by its invariant. -/
@[sl_loop] def loopInv (𝒱 : Variants) (c : Dev nD) (bd : Option 𝒱.V) (E : Set ℕ)  (i : grid0.Coords) (arg1 : Memref sig .tc .vmem S1024x1280 .bf16) (harg1 : arg1.IsWhole) (arg2 : Memref sig .tc .vmem S3x3072x1280 .fp8e4m3) (harg2 : arg2.IsWhole) (arg3 : Memref sig .tc .vmem S1x3072 .f32) (harg3 : arg3.IsWhole) (arg4 : Memref sig .tc .vmem S1x3072 .f32) (harg4 : arg4.IsWhole) (arg5 : Memref sig .tc .vmem S512x3072 .bf16) (harg5 : arg5.IsWhole) (arg6 : Memref sig .tc .vmem S512x3840 .fp8e4m3) (harg6 : arg6.IsWhole) (arg7 : Memref sig .tc .vmem S1x4x128 .f32) (harg7 : arg7.IsWhole) (arg8 : Memref sig .tc .vmem S512x3840 .bf16) (harg8 : arg8.IsWhole) (arg9 : Memref sig .tc .vmem S512x128 .f32) (harg9 : arg9.IsWhole) (arg10 : Memref sig .tc .vmem S8x1280 .f32) (harg10 : arg10.IsWhole) (X1 : BufTy.Contents (Elt F) arg1.view.ty) (G6 : BufTy.Contents (Elt F) arg6.view.ty) (G8 : BufTy.Contents (Elt F) arg8.view.ty) (G9 : BufTy.Contents (Elt F) arg9.view.ty) (G10 : BufTy.Contents (Elt F) arg10.view.ty) :
    LoopTy (F := F) Unit ℕ (UR sig nD τ) ℕ 𝒱 c bd E i arg1 harg1 arg2 harg2 arg3 harg3 arg4 harg4 arg5 harg5 arg6 harg6 arg7 harg7 arg8 harg8 arg9 harg9 arg10 harg10 where
  inv := inv (F := F) 𝒱 c bd i arg1 harg1 arg2 harg2 arg3 harg3 arg4 harg4 arg5 harg5 arg6 harg6 arg7 harg7 arg8 harg8 arg9 harg9 arg10 harg10 X1 G6 G8 G9 G10
  step k acc := by
    iintro ⟨HR_arg1, ⟨%f6, HW_arg6, %h6⟩, ⟨%f8, HW_arg8, %h8⟩, ⟨%f9, HW_arg9, %h9⟩, ⟨%f10, HW_arg10, %h10⟩⟩
    iapply (wp_wand_r Idealize.ShloMosaic.frame (wpE (defs₀ (F := F)) 𝒱 (c : Thread nD τ) bd) E)
    isplitl [HR_arg1 HW_arg6 HW_arg8 HW_arg9 HW_arg10]
    · iapply (trip (F := F) 𝒱 c bd i arg1 harg1 arg2 harg2 arg3 harg3 arg4 harg4 arg5 harg5 arg6 harg6 arg7 harg7 arg8 harg8 arg9 harg9 arg10 harg10 E X1 k f6 f8 f9 f10)
      isplitl [HR_arg1]; · iexact HR_arg1
      isplitl [HW_arg6]; · iexact HW_arg6
      isplitl [HW_arg8]; · iexact HW_arg8
      isplitl [HW_arg9]; · iexact HW_arg9
      iexact HW_arg10
    · iintro %_ ⟨HR_arg1, HW_arg6, HW_arg8, HW_arg9, HW_arg10⟩
      have hc : ldC (arg10.view.read (Elt F) f10) = carry (arg1.view.read (Elt F) X1) (arg10.view.read (Elt F) G10) k.val := by
        rw [ldC_eq, h10, read_st10]
      isplitl [HR_arg1]; · iexact HR_arg1
      isplitl [HW_arg6]
      · iexists _; isplitl [HW_arg6]; · iexact HW_arg6
        ipureintro; rw [h6, hc, st6, dif_pos k.isLt]
      isplitl [HW_arg8]
      · iexists _; isplitl [HW_arg8]; · iexact HW_arg8
        ipureintro; rw [h8, hc, st8, dif_pos k.isLt]
      isplitl [HW_arg9]
      · iexists _; isplitl [HW_arg9]; · iexact HW_arg9
        ipureintro; rw [h9, hc, st9, dif_pos k.isLt]
      iexists _; isplitl [HW_arg10]; · iexact HW_arg10
      ipureintro; rw [h10, st10, dif_pos k.isLt]

/-! ## The closed forms -/

/-- The loop makes 16 trips. -/
theorem trips_eq : k0_t1_loop.trips = 16 := by decide +kernel

/-- The trip that writes row `r` of a block. -/
def tripOf (r : Fin 512) : Fin k0_t1_loop.trips := ⟨r.val / 32, by rw [trips_eq]; omega⟩
/-- Where row `r`, column `q` of a block lies in what its trip writes. -/
def locOf (r : Fin 512) (q : Fin 3840) : S32x1280.Idx := ix2 (⟨r.val % 32, by omega⟩ : Fin 32) (⟨q.val % 1280, by omega⟩ : Fin 1280)

/-- A trip's three column stores, read at an index of the buffer. -/
theorem read_three {sp : Space} {e : EltTy} (v : View sig .tc sp S512x3840 e) (f : v.ty.Contents (Elt F)) (k : Fin k0_t1_loop.trips)
    (w5 w4 w3 : S32x1280.Idx → Elt F e) (y : S512x3840.Idx) :
    v.read (Elt F) (v.writes (Elt F) f [⟨Rect.unit (s := S512x3840) (k0_off5 k) S32x1280.size (k0_off5_inb k), w5⟩,
      ⟨Rect.unit (s := S512x3840) (k0_off4 k) S32x1280.size (k0_off4_inb k), w4⟩,
      ⟨Rect.unit (s := S512x3840) (k0_off3 k) S32x1280.size (k0_off3_inb k), w3⟩]) y
      = if (y 0).val / 32 = k.val then
          (if (y 1).val < 1280 then w3 (locOf (y 0) (y 1)) else if (y 1).val < 2560 then w4 (locOf (y 0) (y 1)) else w5 (locOf (y 0) (y 1)))
        else v.read (Elt F) f y := by
  have h1 : (y 1).val < 3840 := (y 1).isLt
  split
  · rename_i hk
    split
    · rw [View.read_writes_cons_unit_of_not_mem _ _ _ _ _ _ (k0_off5_eq k) 1 (by left; show (y 1).val < 2560; omega),
        View.read_writes_cons_unit_of_not_mem _ _ _ _ _ _ (k0_off4_eq k) 1 (by left; show (y 1).val < 1280; omega)]
      exact View.read_writes_cons_unit_of_mem (s := S512x3840) v f (k0_off3_inb k) w3 _ y (locOf (y 0) (y 1)) (k0_off3_eq k) (by
          intro a; match a with
          | 0 => show (y 0).val = 32 * k.val + (y 0).val % 32; omega
          | 1 => show (y 1).val = 0 + (y 1).val % 1280; omega)
    · split
      · rw [View.read_writes_cons_unit_of_not_mem _ _ _ _ _ _ (k0_off5_eq k) 1 (by left; show (y 1).val < 2560; omega)]
        exact View.read_writes_cons_unit_of_mem (s := S512x3840) v f (k0_off4_inb k) w4 _ y (locOf (y 0) (y 1)) (k0_off4_eq k) (by
          intro a; match a with
          | 0 => show (y 0).val = 32 * k.val + (y 0).val % 32; omega
          | 1 => show (y 1).val = 1280 + (y 1).val % 1280; omega)
      · exact View.read_writes_cons_unit_of_mem (s := S512x3840) v f (k0_off5_inb k) w5 _ y (locOf (y 0) (y 1)) (k0_off5_eq k) (by
          intro a; match a with
          | 0 => show (y 0).val = 32 * k.val + (y 0).val % 32; omega
          | 1 => show (y 1).val = 2560 + (y 1).val % 1280; omega)
  · rename_i hk
    have hrow : (y 0).val < 32 * k.val ∨ 32 * k.val + 32 ≤ (y 0).val := by omega
    rw [View.read_writes_cons_unit_of_not_mem _ _ _ _ _ _ (k0_off5_eq k) 0 hrow,
      View.read_writes_cons_unit_of_not_mem _ _ _ _ _ _ (k0_off4_eq k) 0 hrow,
      View.read_writes_cons_unit_of_not_mem _ _ _ _ _ _ (k0_off3_eq k) 0 hrow]
    rfl

/-- Where row `r`, lane `q` of the scale buffer lies in what its trip writes. -/
def locOf9 (r : Fin 512) (q : Fin 128) : S32x128.Idx := ix2 (⟨r.val % 32, by omega⟩ : Fin 32) q

/-- A trip's store of the scales, read at an index of the buffer. -/
theorem read_one {sp : Space} (v : View sig .tc sp S512x128 .f32) (f : v.ty.Contents (Elt F)) (k : Fin k0_t1_loop.trips)
    (w : S32x128.Idx → Elt F .f32) (y : S512x128.Idx) :
    v.read (Elt F) (v.writes (Elt F) f [⟨Rect.unit (s := S512x128) (k0_off2 k) S32x128.size (k0_off2_inb k), w⟩]) y
      = if (y 0).val / 32 = k.val then w (locOf9 (y 0) (y 1)) else v.read (Elt F) f y := by
  split
  · rename_i hk
    exact View.read_writes_cons_unit_of_mem (s := S512x128) v f (k0_off2_inb k) w _ y (locOf9 (y 0) (y 1)) (k0_off2_eq k) (by
      intro a; match a with
      | 0 => show (y 0).val = 32 * k.val + (y 0).val % 32; omega
      | 1 => show (y 1).val = 0 + (y 1).val; omega)
  · rename_i hk
    have hrow : (y 0).val < 32 * k.val ∨ 32 * k.val + 32 ≤ (y 0).val := by omega
    rw [View.read_writes_cons_unit_of_not_mem _ _ _ _ _ _ (k0_off2_eq k) 0 hrow]
    rfl

/-- The codes of a whole block, from its input rows and the carried row it starts from. -/
def codes (x : Vec F S1024x1280 .bf16) (xs : Vec F S8x1280 .f32) : Vec F S512x3840 .fp8e4m3 := fun y =>
  if (y 1).val < 1280 then k0_pay10 (prevT x (carry x xs ((y 0).val / 32)) (tripOf (y 0))) (biasT x (carry x xs ((y 0).val / 32)) (tripOf (y 0))) (locOf (y 0) (y 1))
  else if (y 1).val < 2560 then k0_pay16 (k0_pay12 (k0_pay2 (raw x (tripOf (y 0)))) (biasT x (carry x xs ((y 0).val / 32)) (tripOf (y 0)))) (Scalar.ofBits .f32 0x43E00000#32) k0_pay13 (locOf (y 0) (y 1))
  else k0_pay18 (k0_pay3 (raw x (tripOf (y 0)))) (k0_pay8 (biasT x (carry x xs ((y 0).val / 32)) (tripOf (y 0)))) (locOf (y 0) (y 1))

/-- The same codes at the wider format. -/
def codesB (x : Vec F S1024x1280 .bf16) (xs : Vec F S8x1280 .f32) : Vec F S512x3840 .bf16 := fun y =>
  if (y 1).val < 1280 then k0_pay11 (prevT x (carry x xs ((y 0).val / 32)) (tripOf (y 0))) (biasT x (carry x xs ((y 0).val / 32)) (tripOf (y 0))) (locOf (y 0) (y 1))
  else if (y 1).val < 2560 then k0_pay17 (k0_pay12 (k0_pay2 (raw x (tripOf (y 0)))) (biasT x (carry x xs ((y 0).val / 32)) (tripOf (y 0)))) (Scalar.ofBits .f32 0x43E00000#32) k0_pay13 (locOf (y 0) (y 1))
  else k0_pay19 (k0_pay3 (raw x (tripOf (y 0)))) (k0_pay8 (biasT x (carry x xs ((y 0).val / 32)) (tripOf (y 0)))) (locOf (y 0) (y 1))

/-- The scales of a whole block's rows, each repeated along 128 lanes. -/
def scales (x : Vec F S1024x1280 .bf16) (xs : Vec F S8x1280 .f32) : Vec F S512x128 .f32 := fun y =>
  k0_pay9 (biasT x (carry x xs ((y 0).val / 32)) (tripOf (y 0))) (locOf9 (y 0) (y 1))

/-- Before trip `K` the code buffer's first `32 K` rows hold the codes. -/
theorem read_st6_of_lt (arg6 : Memref sig .tc .vmem S512x3840 .fp8e4m3) (x : Vec F S1024x1280 .bf16) (xs : Vec F S8x1280 .f32) (G : BufTy.Contents (Elt F) arg6.view.ty)
    (K : ℕ) (hK : K ≤ 16) (y : S512x3840.Idx) (hy : (y 0).val < 32 * K) :
    arg6.view.read (Elt F) (st6 arg6 x xs G K) y = codes x xs y := by
  induction K with
  | zero => omega
  | succ K ih =>
    have hlt : K < k0_t1_loop.trips := by rw [trips_eq]; omega
    rw [st6, dif_pos hlt]; unfold p6
    rw [read_three]
    split
    · rename_i h
      have ht : tripOf (y 0) = ⟨K, hlt⟩ := Fin.ext h
      unfold codes; rw [ht, h]
    · exact ih (by omega) (by rename_i h; change ¬ (y 0).val / 32 = K at h; omega)

/-- Before trip `K` the widened codes' buffer's first `32 K` rows hold them. -/
theorem read_st8_of_lt (arg8 : Memref sig .tc .vmem S512x3840 .bf16) (x : Vec F S1024x1280 .bf16) (xs : Vec F S8x1280 .f32) (G : BufTy.Contents (Elt F) arg8.view.ty)
    (K : ℕ) (hK : K ≤ 16) (y : S512x3840.Idx) (hy : (y 0).val < 32 * K) :
    arg8.view.read (Elt F) (st8 arg8 x xs G K) y = codesB x xs y := by
  induction K with
  | zero => omega
  | succ K ih =>
    have hlt : K < k0_t1_loop.trips := by rw [trips_eq]; omega
    rw [st8, dif_pos hlt]; unfold p8
    rw [read_three]
    split
    · rename_i h
      have ht : tripOf (y 0) = ⟨K, hlt⟩ := Fin.ext h
      unfold codesB; rw [ht, h]
    · exact ih (by omega) (by rename_i h; change ¬ (y 0).val / 32 = K at h; omega)

/-- Before trip `K` the scale buffer's first `32 K` rows hold the scales. -/
theorem read_st9_of_lt (arg9 : Memref sig .tc .vmem S512x128 .f32) (x : Vec F S1024x1280 .bf16) (xs : Vec F S8x1280 .f32) (G : BufTy.Contents (Elt F) arg9.view.ty)
    (K : ℕ) (hK : K ≤ 16) (y : S512x128.Idx) (hy : (y 0).val < 32 * K) :
    arg9.view.read (Elt F) (st9 arg9 x xs G K) y = scales x xs y := by
  induction K with
  | zero => omega
  | succ K ih =>
    have hlt : K < k0_t1_loop.trips := by rw [trips_eq]; omega
    rw [st9, dif_pos hlt]; unfold p9
    rw [read_one]
    split
    · rename_i h
      have ht : tripOf (y 0) = ⟨K, hlt⟩ := Fin.ext h
      unfold scales; rw [ht, h]
    · exact ih (by omega) (by rename_i h; change ¬ (y 0).val / 32 = K at h; omega)

/-- After the loop the code buffer holds the block's codes. -/
theorem read_st6 (arg6 : Memref sig .tc .vmem S512x3840 .fp8e4m3) (x : Vec F S1024x1280 .bf16) (xs : Vec F S8x1280 .f32) (G : BufTy.Contents (Elt F) arg6.view.ty) :
    arg6.view.read (Elt F) (st6 arg6 x xs G k0_t1_loop.trips) = codes x xs :=
  funext fun y => read_st6_of_lt arg6 x xs G _ (le_of_eq trips_eq) y (by rw [trips_eq]; exact (y 0).isLt)
/-- After the loop the widened codes' buffer holds them. -/
theorem read_st8 (arg8 : Memref sig .tc .vmem S512x3840 .bf16) (x : Vec F S1024x1280 .bf16) (xs : Vec F S8x1280 .f32) (G : BufTy.Contents (Elt F) arg8.view.ty) :
    arg8.view.read (Elt F) (st8 arg8 x xs G k0_t1_loop.trips) = codesB x xs :=
  funext fun y => read_st8_of_lt arg8 x xs G _ (le_of_eq trips_eq) y (by rw [trips_eq]; exact (y 0).isLt)
/-- After the loop the scale buffer holds the block's scales. -/
theorem read_st9 (arg9 : Memref sig .tc .vmem S512x128 .f32) (x : Vec F S1024x1280 .bf16) (xs : Vec F S8x1280 .f32) (G : BufTy.Contents (Elt F) arg9.view.ty) :
    arg9.view.read (Elt F) (st9 arg9 x xs G k0_t1_loop.trips) = scales x xs :=
  funext fun y => read_st9_of_lt arg9 x xs G _ (le_of_eq trips_eq) y (by rw [trips_eq]; exact (y 0).isLt)

end Cert.KernelIdeal.Hand

end
-- ==== Proof.Block.lean ====
/- The idealized kernel's body at a grid point, with what it leaves in its three output blocks and in the carry. -/
module

public import proofs.«01_k».proof.Proof.Gen.KernelIdeal.Frame
public import proofs.«01_k».proof.Proof.Loop

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- Each window's current staging memref at point `t`, spelled as the pipeline passes it (`bodyAt0`), and its wholeness. -/
abbrev ms0_0 (t : Fin cfg0.N) : Memref sig .tc .vmem S1024x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x3072x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x3840 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x3840 .bf16 := Memref.whole cc0_scratch0
abbrev scM0_1 : Memref sig .tc .vmem S512x128 .f32 := Memref.whole cc0_scratch1
abbrev scM0_2 : Memref sig .tc .vmem S8x1280 .f32 := Memref.whole cc0_scratch2
/-- The scratch `arg10` the kernel carries between points, as a view: what it holds is stated through it. -/
abbrev VS0_2 : View sig .tc .vmem S8x1280 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The loop's trips and the carry buffer's first store -/

/-- The row loop, written out by its bounds, makes the trips of `k0_t1_loop`. -/
theorem trips_def : Scf.trips k0_t1_loop.lb k0_t1_loop.ub k0_t1_loop.st = k0_t1_loop.trips := rfl
/-- The same with the bounds as the program computes them. -/
theorem trips_lit : Scf.trips (0#32) (Scalar.addi 0#32 16#32) 1#32 = k0_t1_loop.trips := rfl

/-- The whole carry buffer stored over reads as what was stored. -/
theorem read_store10 (arg10 : Memref sig .tc .vmem S8x1280 .f32) (f : BufTy.Contents (Elt F) arg10.view.ty) :
    arg10.view.read (Elt F) (View.write (Elt F) (arg10.view.slice (Rect.unit ![0, 0] S8x1280.size inb_S8x1280_S8x1280_0_0)) f (k0_pay14 (F := F)) Finset.univ) = k0_pay14 :=
  View.read_writes_full (Val := Elt F) arg10.view f inb_S8x1280_S8x1280_0_0 k0_pay14 []

/-! ## What a block stores, in closed form -/

/-- Column block `n` of tap `j` lies inside the weights. -/
theorem inbW (j : Fin 3) (n : Fin 6) : ∀ a, (![j.val, 512 * n.val, 0] : Fin 3 → ℕ) a + S1x512x1280.size a ≤ S3x3072x1280.size a := by
  intro a; match a with
  | 0 => show j.val + 1 ≤ 3; omega
  | 1 => show 512 * n.val + 512 ≤ 3072; omega
  | 2 => show 0 + 1280 ≤ 1280; omega
/-- Column block `n` lies inside a row vector of the 3072 columns. -/
theorem inbR (n : Fin 6) : ∀ a, (![0, 512 * n.val] : Fin 2 → ℕ) a + S1x512.size a ≤ S1x3072.size a := by
  intro a; match a with
  | 0 => show 0 + 1 ≤ 1; omega
  | 1 => show 512 * n.val + 512 ≤ 3072; omega
/-- Column block `n` lies inside the block of the result. -/
theorem inbO (n : Fin 6) : ∀ a, (![0, 512 * n.val] : Fin 2 → ℕ) a + S512x512.size a ≤ S512x3072.size a := by
  intro a; match a with
  | 0 => show 0 + 512 ≤ 512; omega
  | 1 => show 512 * n.val + 512 ≤ 3072; omega
/-- The columns of tap `j` lie inside the codes of a block. -/
theorem inbQ (j : Fin 3) : ∀ a, (![0, 1280 * j.val] : Fin 2 → ℕ) a + S512x1280.size a ≤ S512x3840.size a := by
  intro a; match a with
  | 0 => show 0 + 512 ≤ 512; omega
  | 1 => show 1280 * j.val + 1280 ≤ 3840; omega
/-- Group `j` of 128 rows lies inside the scales of a block. -/
theorem inbS (j : Fin 4) : ∀ a, (![128 * j.val, 0] : Fin 2 → ℕ) a + S128x128.size a ≤ S512x128.size a := by
  intro a; match a with
  | 0 => show 128 * j.val + 128 ≤ 512; omega
  | 1 => show 0 + 128 ≤ 128; omega
/-- Row `j` lies inside the stored scales of a block. -/
theorem inbP (j : Fin 4) : ∀ a, (![0, j.val, 0] : Fin 3 → ℕ) a + S1x1x128.size a ≤ S1x4x128.size a := by
  intro a; match a with
  | 0 => show 0 + 1 ≤ 1; omega
  | 1 => show j.val + 1 ≤ 4; omega
  | 2 => show 0 + 128 ≤ 128; omega

/-- The three column thirds of the widened codes. -/
def qcol (q : Vec F S512x3840 .bf16) (j : Fin 3) : Vec F S512x1280 .bf16 := View.ld q (Rect.unit (s := S512x3840) ![0, 1280 * j.val] S512x1280.size (inbQ j))
/-- The weights of tap `j` for output columns `512 n …`. -/
def wrow (w : Vec F S3x3072x1280 .fp8e4m3) (j : Fin 3) (n : Fin 6) : Vec F S1x512x1280 .fp8e4m3 := View.ld w (Rect.unit (s := S3x3072x1280) ![j.val, 512 * n.val, 0] S1x512x1280.size (inbW j n))
/-- Columns `512 n …` of a row vector. -/
def vcol (b : Vec F S1x3072 .f32) (n : Fin 6) : Vec F S1x512 .f32 := View.ld b (Rect.unit (s := S1x3072) ![0, 512 * n.val] S1x512.size (inbR n))
/-- Rows `128 j …` of the scales. -/
def srow (s : Vec F S512x128 .f32) (j : Fin 4) : Vec F S128x128 .f32 := View.ld s (Rect.unit (s := S512x128) ![128 * j.val, 0] S128x128.size (inbS j))
/-- The scales' first lane. -/
def scol (s : Vec F S512x128 .f32) : Vec F S512x1 .f32 := View.ld s (Rect.unit (s := S512x128) ![0, 0] S512x1.size inb_S512x128_S512x1_0_0)

/-- The `n`-th 512 columns of the block of `y`. -/
def blk4 (q : Vec F S512x3840 .bf16) (s : Vec F S512x128 .f32) (x1 : Vec F S3x3072x1280 .fp8e4m3) (x2 x3 : Vec F S1x3072 .f32) (n : Fin 6) : Vec F S512x512 .bf16 :=
  k0_pay31 (qcol q 0) (wrow x1 0 n) (qcol q 1) (wrow x1 1 n) (qcol q 2) (wrow x1 2 n) (scol s) (vcol x2 n) (vcol x3 n)

/-- Where column `b` of `y` lies among its 512. -/
def loc4 (a : Fin 512) (b : Fin 3072) : S512x512.Idx := ix2 a (⟨b.val % 512, by omega⟩ : Fin 512)
/-- The block of `y`. -/
def out4 (x0 : Vec F S1024x1280 .bf16) (x1 : Vec F S3x3072x1280 .fp8e4m3) (x2 : Vec F S1x3072 .f32) (x3 : Vec F S1x3072 .f32) (xs : Vec F S8x1280 .f32) : Vec F S512x3072 .bf16 := fun y =>
  blk4 (codesB x0 xs) (scales x0 xs) x1 x2 x3 ⟨(y 1).val / 512, by have : (y 1).val < 3072 := (y 1).isLt; omega⟩ (loc4 (y 0) (y 1))

/-- The scale of row `l` of a group of 128 sits at lane `l`. -/
def loc6 (l : Fin 128) : S1x1x128.Idx := ix3 (0 : Fin 1) (0 : Fin 1) l
/-- The block of scales: 4 rows of 128. -/
def out6 (x0 : Vec F S1024x1280 .bf16) (xs : Vec F S8x1280 .f32) : Vec F S1x4x128 .f32 := fun y =>
  k0_pay21 (srow (scales x0 xs) (y 1)) (loc6 (y 2))

section Pays
variable (q0 q1 q2 : Vec F S512x1280 .bf16) (w0 w1 w2 : Vec F S1x512x1280 .fp8e4m3) (s : Vec F S512x1 .f32) (ws b : Vec F S1x512 .f32)
/-- The six column blocks are one computation, however it is printed. -/
theorem pay_n0 : k0_pay28 (k0_pay26 q0 w0) q1 (k0_pay27 w1) q2 w2 s ws b = k0_pay31 q0 w0 q1 w1 q2 w2 s ws b := rfl
/-- Column block 1, computed in two steps, is the column block computed in one. -/
theorem pay_n1 : k0_pay30 (k0_pay29 q0 w0) q1 w1 q2 w2 s ws b = k0_pay31 q0 w0 q1 w1 q2 w2 s ws b := rfl
/-- Column block 3, computed in three steps, is the column block computed in one. -/
theorem pay_n3 : k0_pay34 (k0_pay32 q0 w0 q1 w1 q2 w2 s ws b) (k0_pay33 q0 w0 q1 w1 q2 w2 s ws b) (Scalar.ofBits .f32 0x3F3504F3#32) = k0_pay31 q0 w0 q1 w1 q2 w2 s ws b := rfl
/-- Column block 4, computed in two steps, is the column block computed in one. -/
theorem pay_n4 : k0_pay36 (k0_pay35 q0 w0 q1 w1 q2 w2 s ws) b = k0_pay31 q0 w0 q1 w1 q2 w2 s ws b := rfl
/-- Column block 5, computed in two steps, is the column block computed in one. -/
theorem pay_n5 : k0_pay1 (k0_pay37 q0 w0 q1 w1 q2 w2 s) ws b = k0_pay31 q0 w0 q1 w1 q2 w2 s ws b := rfl
end Pays

/-- Six stores of 512 columns, read as one array. -/
theorem read_cols {sp : Space} (v : View sig .tc sp S512x3072 .bf16) (f : v.ty.Contents (Elt F)) (B : Fin 6 → Vec F S512x512 .bf16) :
    v.read (Elt F) (v.writes (Elt F) f [⟨Rect.unit (s := S512x3072) ![0, 2560] S512x512.size (inbO 5), B 5⟩,
      ⟨Rect.unit (s := S512x3072) ![0, 2048] S512x512.size (inbO 4), B 4⟩, ⟨Rect.unit (s := S512x3072) ![0, 1536] S512x512.size (inbO 3), B 3⟩,
      ⟨Rect.unit (s := S512x3072) ![0, 1024] S512x512.size (inbO 2), B 2⟩, ⟨Rect.unit (s := S512x3072) ![0, 512] S512x512.size (inbO 1), B 1⟩,
      ⟨Rect.unit (s := S512x3072) ![0, 0] S512x512.size (inbO 0), B 0⟩])
      = fun y => B ⟨(y 1).val / 512, by have : (y 1).val < 3072 := (y 1).isLt; omega⟩ (loc4 (y 0) (y 1)) := by
  have key : ∀ (n : Fin 6) (x : S512x512.Idx), B n x = (fun y : S512x3072.Idx => B ⟨(y 1).val / 512, by have : (y 1).val < 3072 := (y 1).isLt; omega⟩ (loc4 (y 0) (y 1)))
      ((Rect.unit (s := S512x3072) ![0, 512 * n.val] S512x512.size (inbO n)).emb x) := by
    intro n x
    have h0 : (((Rect.unit (s := S512x3072) ![0, 512 * n.val] S512x512.size (inbO n)).emb x) 0).val = 0 + 1 * (x 0).val := rfl
    have h1 : (((Rect.unit (s := S512x3072) ![0, 512 * n.val] S512x512.size (inbO n)).emb x) 1).val = 512 * n.val + 1 * (x 1).val := rfl
    have hx : (x 1).val < 512 := (x 1).isLt
    dsimp only
    congr 1
    · apply Fin.ext; show n.val = _ / 512; rw [h1]; omega
    · funext a; match a with
      | 0 => apply Fin.ext; show (x 0).val = _; rw [← Nat.one_mul (x 0).val, ← Nat.zero_add (1 * (x 0).val)]; exact h0.symm
      | 1 => apply Fin.ext; show (x 1).val = _ % 512; rw [h1]; omega
  funext y
  refine View.read_writes_apply_of_pieces v f (fun y : S512x3072.Idx => B ⟨(y 1).val / 512, by have : (y 1).val < 3072 := (y 1).isLt; omega⟩ (loc4 (y 0) (y 1))) _ ?_ y ?_
  · intro p hp
    rcases List.mem_cons.1 hp with rfl | hp; · exact key 5
    rcases List.mem_cons.1 hp with rfl | hp; · exact key 4
    rcases List.mem_cons.1 hp with rfl | hp; · exact key 3
    rcases List.mem_cons.1 hp with rfl | hp; · exact key 2
    rcases List.mem_cons.1 hp with rfl | hp; · exact key 1
    rcases List.mem_cons.1 hp with rfl | hp; · exact key 0
    exact absurd hp List.not_mem_nil
  · exact View.cover_of_tiled_head _ _ _ rfl y

/-- Four stores of a row of 128, read as one array. -/
theorem read_rows {sp : Space} (v : View sig .tc sp S1x4x128 .f32) (f : v.ty.Contents (Elt F)) (B : Fin 4 → Vec F S1x1x128 .f32) :
    v.read (Elt F) (v.writes (Elt F) f [⟨Rect.unit (s := S1x4x128) ![0, 3, 0] S1x1x128.size (inbP 3), B 3⟩,
      ⟨Rect.unit (s := S1x4x128) ![0, 2, 0] S1x1x128.size (inbP 2), B 2⟩, ⟨Rect.unit (s := S1x4x128) ![0, 1, 0] S1x1x128.size (inbP 1), B 1⟩,
      ⟨Rect.unit (s := S1x4x128) ![0, 0, 0] S1x1x128.size (inbP 0), B 0⟩])
      = fun y => B (y 1) (loc6 (y 2)) := by
  have key : ∀ (n : Fin 4) (x : S1x1x128.Idx), B n x = (fun y : S1x4x128.Idx => B (y 1) (loc6 (y 2)))
      ((Rect.unit (s := S1x4x128) ![0, n.val, 0] S1x1x128.size (inbP n)).emb x) := by
    intro n x
    have h1 : (((Rect.unit (s := S1x4x128) ![0, n.val, 0] S1x1x128.size (inbP n)).emb x) 1).val = n.val + 1 * (x 1).val := rfl
    have h2 : (((Rect.unit (s := S1x4x128) ![0, n.val, 0] S1x1x128.size (inbP n)).emb x) 2).val = 0 + 1 * (x 2).val := rfl
    have hx0 : (x 0).val < 1 := (x 0).isLt
    have hx1 : (x 1).val < 1 := (x 1).isLt
    dsimp only
    congr 1
    · apply Fin.ext; rw [h1]; omega
    · funext a; match a with
      | 0 => apply Fin.ext; show (x 0).val = 0; omega
      | 1 => apply Fin.ext; show (x 1).val = 0; omega
      | 2 => apply Fin.ext; show (x 2).val = _; rw [← Nat.one_mul (x 2).val, ← Nat.zero_add (1 * (x 2).val)]; exact h2.symm
  funext y
  refine View.read_writes_apply_of_pieces v f (fun y : S1x4x128.Idx => B (y 1) (loc6 (y 2))) _ ?_ y ?_
  · intro p hp
    rcases List.mem_cons.1 hp with rfl | hp; · exact key 3
    rcases List.mem_cons.1 hp with rfl | hp; · exact key 2
    rcases List.mem_cons.1 hp with rfl | hp; · exact key 1
    rcases List.mem_cons.1 hp with rfl | hp; · exact key 0
    exact absurd hp List.not_mem_nil
  · exact View.cover_of_tiled_head _ _ _ rfl y

section Blocks
variable (q : Vec F S512x3840 .bf16) (s : Vec F S512x128 .f32) (x1 : Vec F S3x3072x1280 .fp8e4m3) (x2 x3 : Vec F S1x3072 .f32)
/-- What the body stores in column block 0 is `blk4` there. -/
theorem blk_n0 : k0_pay28 (k0_pay26 (View.ld q (Rect.unit (s := S512x3840) ![0, 0] S512x1280.size inb_S512x3840_S512x1280_0_0)) (View.ld x1 (Rect.unit (s := S3x3072x1280) ![0, 0, 0] S1x512x1280.size inb_S3x3072x1280_S1x512x1280_0_0_0))) (View.ld q (Rect.unit (s := S512x3840) ![0, 1280] S512x1280.size inb_S512x3840_S512x1280_0_1280)) (k0_pay27 (View.ld x1 (Rect.unit (s := S3x3072x1280) ![1, 0, 0] S1x512x1280.size inb_S3x3072x1280_S1x512x1280_1_0_0))) (View.ld q (Rect.unit (s := S512x3840) ![0, 2560] S512x1280.size inb_S512x3840_S512x1280_0_2560)) (View.ld x1 (Rect.unit (s := S3x3072x1280) ![2, 0, 0] S1x512x1280.size inb_S3x3072x1280_S1x512x1280_2_0_0)) (View.ld s (Rect.unit (s := S512x128) ![0, 0] S512x1.size inb_S512x128_S512x1_0_0)) (View.ld x2 (Rect.unit (s := S1x3072) ![0, 0] S1x512.size inb_S1x3072_S1x512_0_0)) (View.ld x3 (Rect.unit (s := S1x3072) ![0, 0] S1x512.size inb_S1x3072_S1x512_0_0)) = blk4 q s x1 x2 x3 0 := by
  unfold blk4 qcol wrow vcol scol; rfl
/-- What the body stores in column block 1 is `blk4` there. -/
theorem blk_n1 : k0_pay30 (k0_pay29 (View.ld q (Rect.unit (s := S512x3840) ![0, 0] S512x1280.size inb_S512x3840_S512x1280_0_0)) (View.ld x1 (Rect.unit (s := S3x3072x1280) ![0, 512, 0] S1x512x1280.size inb_S3x3072x1280_S1x512x1280_0_512_0))) (View.ld q (Rect.unit (s := S512x3840) ![0, 1280] S512x1280.size inb_S512x3840_S512x1280_0_1280)) (View.ld x1 (Rect.unit (s := S3x3072x1280) ![1, 512, 0] S1x512x1280.size inb_S3x3072x1280_S1x512x1280_1_512_0)) (View.ld q (Rect.unit (s := S512x3840) ![0, 2560] S512x1280.size inb_S512x3840_S512x1280_0_2560)) (View.ld x1 (Rect.unit (s := S3x3072x1280) ![2, 512, 0] S1x512x1280.size inb_S3x3072x1280_S1x512x1280_2_512_0)) (View.ld s (Rect.unit (s := S512x128) ![0, 0] S512x1.size inb_S512x128_S512x1_0_0)) (View.ld x2 (Rect.unit (s := S1x3072) ![0, 512] S1x512.size inb_S1x3072_S1x512_0_512)) (View.ld x3 (Rect.unit (s := S1x3072) ![0, 512] S1x512.size inb_S1x3072_S1x512_0_512)) = blk4 q s x1 x2 x3 1 := by
  unfold blk4 qcol wrow vcol scol; rfl
/-- What the body stores in column block 2 is `blk4` there. -/
theorem blk_n2 : k0_pay31 (View.ld q (Rect.unit (s := S512x3840) ![0, 0] S512x1280.size inb_S512x3840_S512x1280_0_0)) (View.ld x1 (Rect.unit (s := S3x3072x1280) ![0, 1024, 0] S1x512x1280.size inb_S3x3072x1280_S1x512x1280_0_1024_0)) (View.ld q (Rect.unit (s := S512x3840) ![0, 1280] S512x1280.size inb_S512x3840_S512x1280_0_1280)) (View.ld x1 (Rect.unit (s := S3x3072x1280) ![1, 1024, 0] S1x512x1280.size inb_S3x3072x1280_S1x512x1280_1_1024_0)) (View.ld q (Rect.unit (s := S512x3840) ![0, 2560] S512x1280.size inb_S512x3840_S512x1280_0_2560)) (View.ld x1 (Rect.unit (s := S3x3072x1280) ![2, 1024, 0] S1x512x1280.size inb_S3x3072x1280_S1x512x1280_2_1024_0)) (View.ld s (Rect.unit (s := S512x128) ![0, 0] S512x1.size inb_S512x128_S512x1_0_0)) (View.ld x2 (Rect.unit (s := S1x3072) ![0, 1024] S1x512.size inb_S1x3072_S1x512_0_1024)) (View.ld x3 (Rect.unit (s := S1x3072) ![0, 1024] S1x512.size inb_S1x3072_S1x512_0_1024)) = blk4 q s x1 x2 x3 2 := by
  unfold blk4 qcol wrow vcol scol; rfl
/-- What the body stores in column block 3 is `blk4` there. -/
theorem blk_n3 : k0_pay34 (k0_pay32 (View.ld q (Rect.unit (s := S512x3840) ![0, 0] S512x1280.size inb_S512x3840_S512x1280_0_0)) (View.ld x1 (Rect.unit (s := S3x3072x1280) ![0, 1536, 0] S1x512x1280.size inb_S3x3072x1280_S1x512x1280_0_1536_0)) (View.ld q (Rect.unit (s := S512x3840) ![0, 1280] S512x1280.size inb_S512x3840_S512x1280_0_1280)) (View.ld x1 (Rect.unit (s := S3x3072x1280) ![1, 1536, 0] S1x512x1280.size inb_S3x3072x1280_S1x512x1280_1_1536_0)) (View.ld q (Rect.unit (s := S512x3840) ![0, 2560] S512x1280.size inb_S512x3840_S512x1280_0_2560)) (View.ld x1 (Rect.unit (s := S3x3072x1280) ![2, 1536, 0] S1x512x1280.size inb_S3x3072x1280_S1x512x1280_2_1536_0)) (View.ld s (Rect.unit (s := S512x128) ![0, 0] S512x1.size inb_S512x128_S512x1_0_0)) (View.ld x2 (Rect.unit (s := S1x3072) ![0, 1536] S1x512.size inb_S1x3072_S1x512_0_1536)) (View.ld x3 (Rect.unit (s := S1x3072) ![0, 1536] S1x512.size inb_S1x3072_S1x512_0_1536))) (k0_pay33 (View.ld q (Rect.unit (s := S512x3840) ![0, 0] S512x1280.size inb_S512x3840_S512x1280_0_0)) (View.ld x1 (Rect.unit (s := S3x3072x1280) ![0, 1536, 0] S1x512x1280.size inb_S3x3072x1280_S1x512x1280_0_1536_0)) (View.ld q (Rect.unit (s := S512x3840) ![0, 1280] S512x1280.size inb_S512x3840_S512x1280_0_1280)) (View.ld x1 (Rect.unit (s := S3x3072x1280) ![1, 1536, 0] S1x512x1280.size inb_S3x3072x1280_S1x512x1280_1_1536_0)) (View.ld q (Rect.unit (s := S512x3840) ![0, 2560] S512x1280.size inb_S512x3840_S512x1280_0_2560)) (View.ld x1 (Rect.unit (s := S3x3072x1280) ![2, 1536, 0] S1x512x1280.size inb_S3x3072x1280_S1x512x1280_2_1536_0)) (View.ld s (Rect.unit (s := S512x128) ![0, 0] S512x1.size inb_S512x128_S512x1_0_0)) (View.ld x2 (Rect.unit (s := S1x3072) ![0, 1536] S1x512.size inb_S1x3072_S1x512_0_1536)) (View.ld x3 (Rect.unit (s := S1x3072) ![0, 1536] S1x512.size inb_S1x3072_S1x512_0_1536))) (Scalar.ofBits .f32 0x3F3504F3#32) = blk4 q s x1 x2 x3 3 := by
  unfold blk4 qcol wrow vcol scol; rfl
/-- What the body stores in column block 4 is `blk4` there. -/
theorem blk_n4 : k0_pay36 (k0_pay35 (View.ld q (Rect.unit (s := S512x3840) ![0, 0] S512x1280.size inb_S512x3840_S512x1280_0_0)) (View.ld x1 (Rect.unit (s := S3x3072x1280) ![0, 2048, 0] S1x512x1280.size inb_S3x3072x1280_S1x512x1280_0_2048_0)) (View.ld q (Rect.unit (s := S512x3840) ![0, 1280] S512x1280.size inb_S512x3840_S512x1280_0_1280)) (View.ld x1 (Rect.unit (s := S3x3072x1280) ![1, 2048, 0] S1x512x1280.size inb_S3x3072x1280_S1x512x1280_1_2048_0)) (View.ld q (Rect.unit (s := S512x3840) ![0, 2560] S512x1280.size inb_S512x3840_S512x1280_0_2560)) (View.ld x1 (Rect.unit (s := S3x3072x1280) ![2, 2048, 0] S1x512x1280.size inb_S3x3072x1280_S1x512x1280_2_2048_0)) (View.ld s (Rect.unit (s := S512x128) ![0, 0] S512x1.size inb_S512x128_S512x1_0_0)) (View.ld x2 (Rect.unit (s := S1x3072) ![0, 2048] S1x512.size inb_S1x3072_S1x512_0_2048))) (View.ld x3 (Rect.unit (s := S1x3072) ![0, 2048] S1x512.size inb_S1x3072_S1x512_0_2048)) = blk4 q s x1 x2 x3 4 := by
  unfold blk4 qcol wrow vcol scol; rfl
/-- What the body stores in column block 5 is `blk4` there. -/
theorem blk_n5 : k0_pay1 (k0_pay37 (View.ld q (Rect.unit (s := S512x3840) ![0, 0] S512x1280.size inb_S512x3840_S512x1280_0_0)) (View.ld x1 (Rect.unit (s := S3x3072x1280) ![0, 2560, 0] S1x512x1280.size inb_S3x3072x1280_S1x512x1280_0_2560_0)) (View.ld q (Rect.unit (s := S512x3840) ![0, 1280] S512x1280.size inb_S512x3840_S512x1280_0_1280)) (View.ld x1 (Rect.unit (s := S3x3072x1280) ![1, 2560, 0] S1x512x1280.size inb_S3x3072x1280_S1x512x1280_1_2560_0)) (View.ld q (Rect.unit (s := S512x3840) ![0, 2560] S512x1280.size inb_S512x3840_S512x1280_0_2560)) (View.ld x1 (Rect.unit (s := S3x3072x1280) ![2, 2560, 0] S1x512x1280.size inb_S3x3072x1280_S1x512x1280_2_2560_0)) (View.ld s (Rect.unit (s := S512x128) ![0, 0] S512x1.size inb_S512x128_S512x1_0_0))) (View.ld x2 (Rect.unit (s := S1x3072) ![0, 2560] S1x512.size inb_S1x3072_S1x512_0_2560)) (View.ld x3 (Rect.unit (s := S1x3072) ![0, 2560] S1x512.size inb_S1x3072_S1x512_0_2560)) = blk4 q s x1 x2 x3 5 := by
  unfold blk4 qcol wrow vcol scol; rfl

/-- The body's six stores into the block of `y`, as printed, are the six column blocks. -/
theorem read_blk4 {sp : Space} (v : View sig .tc sp S512x3072 .bf16) (f : v.ty.Contents (Elt F)) :
    v.read (Elt F) (v.writes (Elt F) f [
      ⟨Rect.unit (s := S512x3072) ![0, 2560] S512x512.size inb_S512x3072_S512x512_0_2560, k0_pay1 (k0_pay37 (View.ld q (Rect.unit (s := S512x3840) ![0, 0] S512x1280.size inb_S512x3840_S512x1280_0_0)) (View.ld x1 (Rect.unit (s := S3x3072x1280) ![0, 2560, 0] S1x512x1280.size inb_S3x3072x1280_S1x512x1280_0_2560_0)) (View.ld q (Rect.unit (s := S512x3840) ![0, 1280] S512x1280.size inb_S512x3840_S512x1280_0_1280)) (View.ld x1 (Rect.unit (s := S3x3072x1280) ![1, 2560, 0] S1x512x1280.size inb_S3x3072x1280_S1x512x1280_1_2560_0)) (View.ld q (Rect.unit (s := S512x3840) ![0, 2560] S512x1280.size inb_S512x3840_S512x1280_0_2560)) (View.ld x1 (Rect.unit (s := S3x3072x1280) ![2, 2560, 0] S1x512x1280.size inb_S3x3072x1280_S1x512x1280_2_2560_0)) (View.ld s (Rect.unit (s := S512x128) ![0, 0] S512x1.size inb_S512x128_S512x1_0_0))) (View.ld x2 (Rect.unit (s := S1x3072) ![0, 2560] S1x512.size inb_S1x3072_S1x512_0_2560)) (View.ld x3 (Rect.unit (s := S1x3072) ![0, 2560] S1x512.size inb_S1x3072_S1x512_0_2560))⟩,
      ⟨Rect.unit (s := S512x3072) ![0, 2048] S512x512.size inb_S512x3072_S512x512_0_2048, k0_pay36 (k0_pay35 (View.ld q (Rect.unit (s := S512x3840) ![0, 0] S512x1280.size inb_S512x3840_S512x1280_0_0)) (View.ld x1 (Rect.unit (s := S3x3072x1280) ![0, 2048, 0] S1x512x1280.size inb_S3x3072x1280_S1x512x1280_0_2048_0)) (View.ld q (Rect.unit (s := S512x3840) ![0, 1280] S512x1280.size inb_S512x3840_S512x1280_0_1280)) (View.ld x1 (Rect.unit (s := S3x3072x1280) ![1, 2048, 0] S1x512x1280.size inb_S3x3072x1280_S1x512x1280_1_2048_0)) (View.ld q (Rect.unit (s := S512x3840) ![0, 2560] S512x1280.size inb_S512x3840_S512x1280_0_2560)) (View.ld x1 (Rect.unit (s := S3x3072x1280) ![2, 2048, 0] S1x512x1280.size inb_S3x3072x1280_S1x512x1280_2_2048_0)) (View.ld s (Rect.unit (s := S512x128) ![0, 0] S512x1.size inb_S512x128_S512x1_0_0)) (View.ld x2 (Rect.unit (s := S1x3072) ![0, 2048] S1x512.size inb_S1x3072_S1x512_0_2048))) (View.ld x3 (Rect.unit (s := S1x3072) ![0, 2048] S1x512.size inb_S1x3072_S1x512_0_2048))⟩,
      ⟨Rect.unit (s := S512x3072) ![0, 1536] S512x512.size inb_S512x3072_S512x512_0_1536, k0_pay34 (k0_pay32 (View.ld q (Rect.unit (s := S512x3840) ![0, 0] S512x1280.size inb_S512x3840_S512x1280_0_0)) (View.ld x1 (Rect.unit (s := S3x3072x1280) ![0, 1536, 0] S1x512x1280.size inb_S3x3072x1280_S1x512x1280_0_1536_0)) (View.ld q (Rect.unit (s := S512x3840) ![0, 1280] S512x1280.size inb_S512x3840_S512x1280_0_1280)) (View.ld x1 (Rect.unit (s := S3x3072x1280) ![1, 1536, 0] S1x512x1280.size inb_S3x3072x1280_S1x512x1280_1_1536_0)) (View.ld q (Rect.unit (s := S512x3840) ![0, 2560] S512x1280.size inb_S512x3840_S512x1280_0_2560)) (View.ld x1 (Rect.unit (s := S3x3072x1280) ![2, 1536, 0] S1x512x1280.size inb_S3x3072x1280_S1x512x1280_2_1536_0)) (View.ld s (Rect.unit (s := S512x128) ![0, 0] S512x1.size inb_S512x128_S512x1_0_0)) (View.ld x2 (Rect.unit (s := S1x3072) ![0, 1536] S1x512.size inb_S1x3072_S1x512_0_1536)) (View.ld x3 (Rect.unit (s := S1x3072) ![0, 1536] S1x512.size inb_S1x3072_S1x512_0_1536))) (k0_pay33 (View.ld q (Rect.unit (s := S512x3840) ![0, 0] S512x1280.size inb_S512x3840_S512x1280_0_0)) (View.ld x1 (Rect.unit (s := S3x3072x1280) ![0, 1536, 0] S1x512x1280.size inb_S3x3072x1280_S1x512x1280_0_1536_0)) (View.ld q (Rect.unit (s := S512x3840) ![0, 1280] S512x1280.size inb_S512x3840_S512x1280_0_1280)) (View.ld x1 (Rect.unit (s := S3x3072x1280) ![1, 1536, 0] S1x512x1280.size inb_S3x3072x1280_S1x512x1280_1_1536_0)) (View.ld q (Rect.unit (s := S512x3840) ![0, 2560] S512x1280.size inb_S512x3840_S512x1280_0_2560)) (View.ld x1 (Rect.unit (s := S3x3072x1280) ![2, 1536, 0] S1x512x1280.size inb_S3x3072x1280_S1x512x1280_2_1536_0)) (View.ld s (Rect.unit (s := S512x128) ![0, 0] S512x1.size inb_S512x128_S512x1_0_0)) (View.ld x2 (Rect.unit (s := S1x3072) ![0, 1536] S1x512.size inb_S1x3072_S1x512_0_1536)) (View.ld x3 (Rect.unit (s := S1x3072) ![0, 1536] S1x512.size inb_S1x3072_S1x512_0_1536))) (Scalar.ofBits .f32 0x3F3504F3#32)⟩,
      ⟨Rect.unit (s := S512x3072) ![0, 1024] S512x512.size inb_S512x3072_S512x512_0_1024, k0_pay31 (View.ld q (Rect.unit (s := S512x3840) ![0, 0] S512x1280.size inb_S512x3840_S512x1280_0_0)) (View.ld x1 (Rect.unit (s := S3x3072x1280) ![0, 1024, 0] S1x512x1280.size inb_S3x3072x1280_S1x512x1280_0_1024_0)) (View.ld q (Rect.unit (s := S512x3840) ![0, 1280] S512x1280.size inb_S512x3840_S512x1280_0_1280)) (View.ld x1 (Rect.unit (s := S3x3072x1280) ![1, 1024, 0] S1x512x1280.size inb_S3x3072x1280_S1x512x1280_1_1024_0)) (View.ld q (Rect.unit (s := S512x3840) ![0, 2560] S512x1280.size inb_S512x3840_S512x1280_0_2560)) (View.ld x1 (Rect.unit (s := S3x3072x1280) ![2, 1024, 0] S1x512x1280.size inb_S3x3072x1280_S1x512x1280_2_1024_0)) (View.ld s (Rect.unit (s := S512x128) ![0, 0] S512x1.size inb_S512x128_S512x1_0_0)) (View.ld x2 (Rect.unit (s := S1x3072) ![0, 1024] S1x512.size inb_S1x3072_S1x512_0_1024)) (View.ld x3 (Rect.unit (s := S1x3072) ![0, 1024] S1x512.size inb_S1x3072_S1x512_0_1024))⟩,
      ⟨Rect.unit (s := S512x3072) ![0, 512] S512x512.size inb_S512x3072_S512x512_0_512, k0_pay30 (k0_pay29 (View.ld q (Rect.unit (s := S512x3840) ![0, 0] S512x1280.size inb_S512x3840_S512x1280_0_0)) (View.ld x1 (Rect.unit (s := S3x3072x1280) ![0, 512, 0] S1x512x1280.size inb_S3x3072x1280_S1x512x1280_0_512_0))) (View.ld q (Rect.unit (s := S512x3840) ![0, 1280] S512x1280.size inb_S512x3840_S512x1280_0_1280)) (View.ld x1 (Rect.unit (s := S3x3072x1280) ![1, 512, 0] S1x512x1280.size inb_S3x3072x1280_S1x512x1280_1_512_0)) (View.ld q (Rect.unit (s := S512x3840) ![0, 2560] S512x1280.size inb_S512x3840_S512x1280_0_2560)) (View.ld x1 (Rect.unit (s := S3x3072x1280) ![2, 512, 0] S1x512x1280.size inb_S3x3072x1280_S1x512x1280_2_512_0)) (View.ld s (Rect.unit (s := S512x128) ![0, 0] S512x1.size inb_S512x128_S512x1_0_0)) (View.ld x2 (Rect.unit (s := S1x3072) ![0, 512] S1x512.size inb_S1x3072_S1x512_0_512)) (View.ld x3 (Rect.unit (s := S1x3072) ![0, 512] S1x512.size inb_S1x3072_S1x512_0_512))⟩,
      ⟨Rect.unit (s := S512x3072) ![0, 0] S512x512.size inb_S512x3072_S512x512_0_0, k0_pay28 (k0_pay26 (View.ld q (Rect.unit (s := S512x3840) ![0, 0] S512x1280.size inb_S512x3840_S512x1280_0_0)) (View.ld x1 (Rect.unit (s := S3x3072x1280) ![0, 0, 0] S1x512x1280.size inb_S3x3072x1280_S1x512x1280_0_0_0))) (View.ld q (Rect.unit (s := S512x3840) ![0, 1280] S512x1280.size inb_S512x3840_S512x1280_0_1280)) (k0_pay27 (View.ld x1 (Rect.unit (s := S3x3072x1280) ![1, 0, 0] S1x512x1280.size inb_S3x3072x1280_S1x512x1280_1_0_0))) (View.ld q (Rect.unit (s := S512x3840) ![0, 2560] S512x1280.size inb_S512x3840_S512x1280_0_2560)) (View.ld x1 (Rect.unit (s := S3x3072x1280) ![2, 0, 0] S1x512x1280.size inb_S3x3072x1280_S1x512x1280_2_0_0)) (View.ld s (Rect.unit (s := S512x128) ![0, 0] S512x1.size inb_S512x128_S512x1_0_0)) (View.ld x2 (Rect.unit (s := S1x3072) ![0, 0] S1x512.size inb_S1x3072_S1x512_0_0)) (View.ld x3 (Rect.unit (s := S1x3072) ![0, 0] S1x512.size inb_S1x3072_S1x512_0_0))⟩]) = fun y => blk4 q s x1 x2 x3 ⟨(y 1).val / 512, by have : (y 1).val < 3072 := (y 1).isLt; omega⟩ (loc4 (y 0) (y 1)) := by
  rw [blk_n5, blk_n4, blk_n3, blk_n2, blk_n1, blk_n0]
  exact read_cols v f (blk4 q s x1 x2 x3)

/-- What the body stores as scale row 0 is the diagonal of group 0 of the scales. -/
theorem row_n0 : k0_pay21 (View.ld s (Rect.unit (s := S512x128) ![0, 0] S128x128.size inb_S512x128_S128x128_0_0)) = k0_pay21 (srow s 0) := by
  unfold srow; rfl
/-- What the body stores as scale row 1 is the diagonal of group 1 of the scales. -/
theorem row_n1 : k0_pay23 (k0_pay22 (View.ld s (Rect.unit (s := S512x128) ![128, 0] S128x128.size inb_S512x128_S128x128_128_0))) = k0_pay21 (srow s 1) := by
  unfold srow; rfl
/-- What the body stores as scale row 2 is the diagonal of group 2 of the scales. -/
theorem row_n2 : k0_pay24 k0_pay20 (View.ld s (Rect.unit (s := S512x128) ![256, 0] S128x128.size inb_S512x128_S128x128_256_0)) = k0_pay21 (srow s 2) := by
  unfold srow; rfl
/-- What the body stores as scale row 3 is the diagonal of group 3 of the scales. -/
theorem row_n3 : k0_pay25 k0_pay20 (View.ld s (Rect.unit (s := S512x128) ![384, 0] S128x128.size inb_S512x128_S128x128_384_0)) = k0_pay21 (srow s 3) := by
  unfold srow; rfl

/-- The body's four stores into the block of scales, as printed, are the four rows. -/
theorem read_blk6 {sp : Space} (v : View sig .tc sp S1x4x128 .f32) (f : v.ty.Contents (Elt F)) :
    v.read (Elt F) (v.writes (Elt F) f [
      ⟨Rect.unit (s := S1x4x128) ![0, 3, 0] S1x1x128.size inb_S1x4x128_S1x1x128_0_3_0, k0_pay25 k0_pay20 (View.ld s (Rect.unit (s := S512x128) ![384, 0] S128x128.size inb_S512x128_S128x128_384_0))⟩,
      ⟨Rect.unit (s := S1x4x128) ![0, 2, 0] S1x1x128.size inb_S1x4x128_S1x1x128_0_2_0, k0_pay24 k0_pay20 (View.ld s (Rect.unit (s := S512x128) ![256, 0] S128x128.size inb_S512x128_S128x128_256_0))⟩,
      ⟨Rect.unit (s := S1x4x128) ![0, 1, 0] S1x1x128.size inb_S1x4x128_S1x1x128_0_1_0, k0_pay23 (k0_pay22 (View.ld s (Rect.unit (s := S512x128) ![128, 0] S128x128.size inb_S512x128_S128x128_128_0)))⟩,
      ⟨Rect.unit (s := S1x4x128) ![0, 0, 0] S1x1x128.size inb_S1x4x128_S1x1x128_0_0_0, k0_pay21 (View.ld s (Rect.unit (s := S512x128) ![0, 0] S128x128.size inb_S512x128_S128x128_0_0))⟩]) = fun y => k0_pay21 (srow s (y 1)) (loc6 (y 2)) := by
  rw [row_n3, row_n2, row_n1, row_n0]
  exact read_rows v f fun j => k0_pay21 (srow s j)
end Blocks

/-! ## The body -/

set_option maxHeartbeats 4000000 in
/-- The body at a grid point where a batch starts: the carried row is set to zero first. On whole buffers, the inputs' at given contents, it leaves the
    block's results in the three output buffers and the block's last odd row in the carry buffer. -/
theorem body_A (c : Dev nD) (i : grid0.Coords) (arg1 : Memref sig .tc .vmem S1024x1280 .bf16) (harg1 : arg1.IsWhole) (arg2 : Memref sig .tc .vmem S3x3072x1280 .fp8e4m3) (harg2 : arg2.IsWhole) (arg3 : Memref sig .tc .vmem S1x3072 .f32) (harg3 : arg3.IsWhole) (arg4 : Memref sig .tc .vmem S1x3072 .f32) (harg4 : arg4.IsWhole) (arg5 : Memref sig .tc .vmem S512x3072 .bf16) (harg5 : arg5.IsWhole) (arg6 : Memref sig .tc .vmem S512x3840 .fp8e4m3) (harg6 : arg6.IsWhole) (arg7 : Memref sig .tc .vmem S1x4x128 .f32) (harg7 : arg7.IsWhole) (arg8 : Memref sig .tc .vmem S512x3840 .bf16) (harg8 : arg8.IsWhole) (arg9 : Memref sig .tc .vmem S512x128 .f32) (harg9 : arg9.IsWhole) (arg10 : Memref sig .tc .vmem S8x1280 .f32) (harg10 : arg10.IsWhole) (hc0 : cond0_0 i)
    (x0 : Vec F S1024x1280 .bf16) (x1 : Vec F S3x3072x1280 .fp8e4m3) (x2 : Vec F S1x3072 .f32) (x3 : Vec F S1x3072 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3 k0_pay14) ∗ owns (c : Thread nD τ) arg6 fullShare (codes x0 k0_pay14) ∗ owns (c : Thread nD τ) arg7 fullShare (out6 x0 k0_pay14) ∗ (∃ d, owns (c : Thread nD τ) arg8 fullShare d) ∗ (∃ d, owns (c : Thread nD τ) arg9 fullShare d) ∗ owns (c : Thread nD τ) arg10 fullShare (carry x0 k0_pay14 k0_t1_loop.trips)) -∗ K ⟨⟩))
      ⊢ wp frame (wpE (defs₀ (F := F)) Variants.none c none) E (cc0_conv_gelu i arg1 harg1 arg2 harg2 arg3 harg3 arg4 harg4 arg5 harg5 arg6 harg6 arg7 harg7 arg8 harg8 arg9 harg9 arg10 harg10) K := by
  simp only [cc0_conv_gelu_eq_skeleton]; unfold cc0_conv_gelu_skel
  simp only [k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0)
  sl_step
  have hread := read_store10 (F := F) arg10
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_run_names
    simp only [View.readAt_eq_ld, hread, trips_lit, read_st8, read_st9, Memref.IsWhole.read_unread]
    exact read_blk4 (codesB x0 k0_pay14) (scales x0 k0_pay14) x1 x2 x3 arg5.view f4
  isplitl [H5]
  · iexists _; isplitr; swap; · iexact H5
    ipureintro; simp only [trips_def, Memref.IsWhole.read_unread, hread]; exact read_st6 _ _ _ _
  isplitl [H6]
  · iexists _; isplitr; swap; · iexact H6
    ipureintro
    sl_unfold_run_names
    simp only [View.readAt_eq_ld, hread, trips_lit, read_st8, read_st9, Memref.IsWhole.read_unread]
    exact read_blk6 (scales x0 k0_pay14) arg7.view f6
  isplitl [HS0]
  · iexists _, _; isplitr; swap; · iexact HS0
    ipureintro; rfl
  isplitl [HS1]
  · iexists _, _; isplitr; swap; · iexact HS1
    ipureintro; rfl
  iexists _; isplitr; swap; · iexact HS2
  ipureintro
  simp only [trips_def, Memref.IsWhole.read_unread]
  rw [read_st10, hread]

set_option maxHeartbeats 4000000 in
/-- The body at a grid point inside a batch: the carried row is the one found. On whole buffers, the inputs' at given contents, it leaves the
    block's results in the three output buffers and the block's last odd row in the carry buffer. -/
theorem body_B (c : Dev nD) (i : grid0.Coords) (arg1 : Memref sig .tc .vmem S1024x1280 .bf16) (harg1 : arg1.IsWhole) (arg2 : Memref sig .tc .vmem S3x3072x1280 .fp8e4m3) (harg2 : arg2.IsWhole) (arg3 : Memref sig .tc .vmem S1x3072 .f32) (harg3 : arg3.IsWhole) (arg4 : Memref sig .tc .vmem S1x3072 .f32) (harg4 : arg4.IsWhole) (arg5 : Memref sig .tc .vmem S512x3072 .bf16) (harg5 : arg5.IsWhole) (arg6 : Memref sig .tc .vmem S512x3840 .fp8e4m3) (harg6 : arg6.IsWhole) (arg7 : Memref sig .tc .vmem S1x4x128 .f32) (harg7 : arg7.IsWhole) (arg8 : Memref sig .tc .vmem S512x3840 .bf16) (harg8 : arg8.IsWhole) (arg9 : Memref sig .tc .vmem S512x128 .f32) (harg9 : arg9.IsWhole) (arg10 : Memref sig .tc .vmem S8x1280 .f32) (harg10 : arg10.IsWhole) (hc0 : ¬cond0_0 i)
    (x0 : Vec F S1024x1280 .bf16) (x1 : Vec F S3x3072x1280 .fp8e4m3) (x2 : Vec F S1x3072 .f32) (x3 : Vec F S1x3072 .f32) (xs : Vec F S8x1280 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3 xs) ∗ owns (c : Thread nD τ) arg6 fullShare (codes x0 xs) ∗ owns (c : Thread nD τ) arg7 fullShare (out6 x0 xs) ∗ (∃ d, owns (c : Thread nD τ) arg8 fullShare d) ∗ (∃ d, owns (c : Thread nD τ) arg9 fullShare d) ∗ owns (c : Thread nD τ) arg10 fullShare (carry x0 xs k0_t1_loop.trips)) -∗ K ⟨⟩))
      ⊢ wp frame (wpE (defs₀ (F := F)) Variants.none c none) E (cc0_conv_gelu i arg1 harg1 arg2 harg2 arg3 harg3 arg4 harg4 arg5 harg5 arg6 harg6 arg7 harg7 arg8 harg8 arg9 harg9 arg10 harg10) K := by
  simp only [cc0_conv_gelu_eq_skeleton]; unfold cc0_conv_gelu_skel
  simp only [k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%fs2, %hfs2, HS2⟩, Hk⟩
  obtain rfl := harg1.eq_unread hf0; obtain rfl := harg2.eq_unread hf1; obtain rfl := harg3.eq_unread hf2; obtain rfl := harg4.eq_unread hf3
  sl_exec (disch := first | sl_exact hc0)
  sl_step
  have hread := hfs2
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_run_names
    simp only [View.readAt_eq_ld, hread, trips_lit, read_st8, read_st9, Memref.IsWhole.read_unread]
    exact read_blk4 (codesB x0 xs) (scales x0 xs) x1 x2 x3 arg5.view f4
  isplitl [H5]
  · iexists _; isplitr; swap; · iexact H5
    ipureintro; simp only [trips_def, Memref.IsWhole.read_unread, hread]; exact read_st6 _ _ _ _
  isplitl [H6]
  · iexists _; isplitr; swap; · iexact H6
    ipureintro
    sl_unfold_run_names
    simp only [View.readAt_eq_ld, hread, trips_lit, read_st8, read_st9, Memref.IsWhole.read_unread]
    exact read_blk6 (scales x0 xs) arg7.view f6
  isplitl [HS0]
  · iexists _, _; isplitr; swap; · iexact HS0
    ipureintro; rfl
  isplitl [HS1]
  · iexists _, _; isplitr; swap; · iexact HS1
    ipureintro; rfl
  iexists _; isplitr; swap; · iexact HS2
  ipureintro
  simp only [trips_def, Memref.IsWhole.read_unread]
  rw [read_st10, hread]

end Cert.KernelIdeal.Hand

end
-- ==== Proof.Run.lean ====
/- The idealized kernel's whole run: what every grid point leaves in its output blocks, with the odd row one block carries
   to the next inside a batch, and from it the frame. -/
module

public import proofs.«01_k».proof.Proof.Gen.KernelIdeal.Frame
public import proofs.«01_k».proof.Proof.Block
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the carry buffer holds between grid points -/

/-- The last odd row of a block (eight copies of it): what the block leaves in the carry buffer. -/
def lastOdd (x : Vec F S1024x1280 .bf16) : Vec F S8x1280 .f32 := k0_pay5 (raw x ⟨15, by rw [trips_eq]; omega⟩)

/-- After all trips the carry holds the last odd frame of the block. -/
theorem carry_trips (x : Vec F S1024x1280 .bf16) (xs : Vec F S8x1280 .f32) : carry x xs k0_t1_loop.trips = lastOdd x := by
  have h : ∀ n, n = 16 → carry x xs n = lastOdd x := by
    intro n hn; subst hn; rw [carry, dif_pos (by rw [trips_eq]; omega)]; rfl
  exact h _ trips_eq

/-- What the carry buffer holds before point `t`, unless a batch starts there: the last odd row of the block before. -/
def carryAt (c : Dev nD) (t : ℕ) : Vec F S8x1280 .f32 := lastOdd (iblk m c 0 ⟨(t - 1) % 24, Nat.mod_lt _ (by decide)⟩)

/-- After step `t` the carry holds the last odd frame of block `t`. -/
theorem carryAt_succ (c : Dev nD) (t : Fin cfg0.N) : carryAt m c (t.val + 1) = lastOdd (iblk m c 0 t) := by
  have h : (⟨(t.val + 1 - 1) % 24, Nat.mod_lt _ (by decide)⟩ : Fin cfg0.N) = t :=
    Fin.ext (by show (t.val + 1 - 1) % 24 = t.val; rw [Nat.add_sub_cancel]; exact Nat.mod_eq_of_lt t.isLt)
  unfold carryAt; rw [h]

/-- The carried row point `t` starts from. -/
def xsAt (c : Dev nD) (t : Fin cfg0.N) : Vec F S8x1280 .f32 := if t.val % 8 = 0 then k0_pay14 else carryAt m c t.val

/-- What point `t` leaves in its three output blocks. -/
def aft4 (c : Dev nD) (t : Fin cfg0.N) : Vec F S512x3072 .bf16 := out4 (iblk m c 0 t) (iblk m c 1 t) (iblk m c 2 t) (iblk m c 3 t) (xsAt m c t)
def aft5 (c : Dev nD) (t : Fin cfg0.N) : Vec F S512x3840 .fp8e4m3 := codes (iblk m c 0 t) (xsAt m c t)
def aft6 (c : Dev nD) (t : Fin cfg0.N) : Vec F S1x4x128 .f32 := out6 (iblk m c 0 t) (xsAt m c t)

/-- Between grid points: two scratch buffers at some contents, the carry buffer at the last odd row of the block before
    (or, where a batch starts, at anything). -/
def Φc (c : Dev nD) (t : ℕ) : sProp 𝕄 :=
  iprop(iprop((∃ d, owns (c : Thread nD τ) scM0_0 fullShare d) ∗ (∃ d, owns (c : Thread nD τ) scM0_1 fullShare d) ∗ (∃ d, ⌜t % 8 ≠ 0 → d = carryAt m c t⌝ ∗ owns (c : Thread nD τ) scM0_2 fullShare d)) ∗ (∃ r, prngReg c r))

/-- What the one pipeline holds on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => aft4 m c t
    | ⟨5, _⟩ => aft5 m c t
    | ⟨6, _⟩ => aft6 m c t
  Φ t := Φc m c t.val
  q _ := fullShare
  owed _ := 0

/-- Each window's array begins as the program hands it over. -/
theorem A_eq (c : Dev nD) (w : Fin cfg0.W) : (dats m 0 c).A w = V m c (Pipeline.arrRef spec0 w) := by
  dsimp only [dats]

/-- Input 0 keeps its block through a step. -/
theorem after0_0 (c : Dev nD) (t : Fin cfg0.N) : (dats m 0 c).after 0 t = iblk m c 0 t := by dsimp only [dats]
/-- Input 1 keeps its block through a step. -/
theorem after0_1 (c : Dev nD) (t : Fin cfg0.N) : (dats m 0 c).after 1 t = iblk m c 1 t := by dsimp only [dats]
/-- Input 2 keeps its block through a step. -/
theorem after0_2 (c : Dev nD) (t : Fin cfg0.N) : (dats m 0 c).after 2 t = iblk m c 2 t := by dsimp only [dats]
/-- Input 3 keeps its block through a step. -/
theorem after0_3 (c : Dev nD) (t : Fin cfg0.N) : (dats m 0 c).after 3 t = iblk m c 3 t := by dsimp only [dats]
/-- After a step result 0 holds the block that the body forms. -/
theorem after0_4 (c : Dev nD) (t : Fin cfg0.N) : (dats m 0 c).after 4 t = aft4 m c t := by dsimp only [dats]
/-- After a step result 1 holds the block that the body forms. -/
theorem after0_5 (c : Dev nD) (t : Fin cfg0.N) : (dats m 0 c).after 5 t = aft5 m c t := by dsimp only [dats]
/-- After a step result 2 holds the block that the body forms. -/
theorem after0_6 (c : Dev nD) (t : Fin cfg0.N) : (dats m 0 c).after 6 t = aft6 m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
/-- Input 1 holds its block when a step begins. -/
theorem before0_1 (c : Dev nD) (t : Fin cfg0.N) (d) : (dats m 0 c).before 1 t d = iblk m c 1 t :=
  before0_1_of m (dats m 0 c) (A_eq m c 1) (after0_1 m c) t d
/-- Input 2 holds its block when a step begins. -/
theorem before0_2 (c : Dev nD) (t : Fin cfg0.N) (d) : (dats m 0 c).before 2 t d = iblk m c 2 t :=
  before0_2_of m (dats m 0 c) (A_eq m c 2) (after0_2 m c) t d
/-- Input 3 holds its block when a step begins. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1000000 in
/-- The body at any grid point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.succ = Φc m c (t.val + 1) from rfl, show (dats m 0 c).Φ t.castSucc = Φc m c t.val from rfl]
  unfold Φc
  have hlast := carryAt_succ m c t
  have run : ∀ (ds : Vec F S8x1280 .f32) (hds : t.val % 8 ≠ 0 → ds = carryAt m c t.val) (K : PUnit → sProp 𝕄), iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) scM0_0 fullShare d) ∗ (∃ d, owns (c : Thread nD τ) scM0_1 fullShare d) ∗ owns (c : Thread nD τ) scM0_2 fullShare ds
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (aft4 m c t) ∗ owns (c : Thread nD τ) (ms0_5 t) fullShare (aft5 m c t) ∗ owns (c : Thread nD τ) (ms0_6 t) fullShare (aft6 m c t) ∗ (∃ d, owns (c : Thread nD τ) scM0_0 fullShare d) ∗ (∃ d, owns (c : Thread nD τ) scM0_1 fullShare d) ∗ owns (c : Thread nD τ) scM0_2 fullShare (carryAt m c (t.val + 1))) -∗ K ⟨⟩))
      ⊢ wp frame (wpE (defs₀ (F := F)) Variants.none c none) Set.univ (bodyAt0 t) K := by
    intro ds hds K
    rw [hlast]
    by_cases h0 : t.val % 8 = 0
    · have hxs : xsAt m c t = k0_pay14 := if_pos h0
      unfold aft4 aft5 aft6; rw [hxs, ← carry_trips (iblk m c 0 t) k0_pay14]
      iintro ⟨H0, H1, H2, H3, H4, H5, H6, HS0, HS1, HS2, Hk⟩
      iapply (body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 _ scM0_1 _ scM0_2 _ ((hcond0_0 t).2 h0) (iblk m c 0 t) (iblk m c 1 t) (iblk m c 2 t) (iblk m c 3 t) Set.univ K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexists _; iexact HS2
      iexact Hk
    · have hxs : xsAt m c t = ds := (if_neg h0).trans (hds h0).symm
      unfold aft4 aft5 aft6; rw [hxs, ← carry_trips (iblk m c 0 t) ds]
      exact body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 _ scM0_1 _ scM0_2 _ (fun h => h0 ((hcond0_0 t).1 h)) (iblk m c 0 t) (iblk m c 1 t) (iblk m c 2 t) (iblk m c 3 t) ds Set.univ K
  iintro ⟨⟨⟨HS0, HS1, ⟨%ds, %hds, HS2⟩⟩, Hg⟩, Ho, ⟨%d0, H0⟩, ⟨%d1, H1⟩, ⟨%d2, H2⟩, ⟨%d3, H3⟩, ⟨%d4, H4⟩, ⟨%d5, H5⟩, ⟨%d6, H6⟩⟩
  iapply (run ds hds _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexists _; isplitr; swap; · iexact HS2
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Φc m c 0 from rfl, PhiA0_eq]; unfold Φc
  iintro ⟨⟨HS0, HS1, ⟨%d, HS2⟩⟩, Hg⟩
  isplitl [HS0 HS1 HS2]
  · isplitl [HS0]; · iexact HS0
    isplitl [HS1]; · iexact HS1
    iexists d; isplitr; swap; · iexact HS2
    ipureintro; exact fun h => absurd rfl h
  iexact Hg

/-- The invariant after the last point gives it back. -/
theorem hout (c : Dev nD) : (dats m 0 c).Φ (Fin.last cfg0.N) ⊢ Pipeline.ΦA spec0 c := by
  rw [show (dats m 0 c).Φ (Fin.last cfg0.N) = Φc m c cfg0.N from rfl, PhiA0_eq]; unfold Φc
  iintro ⟨⟨HS0, HS1, ⟨%d, -, HS2⟩⟩, Hg⟩
  isplitl [HS0 HS1 HS2]
  · isplitl [HS0]; · iexact HS0
    isplitl [HS1]; · iexact HS1
    iexists d; iexact HS2
  iexact Hg

/-! ## The run and the frame -/

-- `θ_run_frame_track`'s implicit arguments are found by unifying its conclusion with this one, which takes unfolding plain
-- definitions in a metavariable's type
set_option backward.isDefEq.respectTransparency.types false in
set_option maxHeartbeats 800000 in
/-- The launch: every array of the pipeline ends at what the proof data computes, every other unscoped buffer as the
    region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end, and every array holds what the steps wrote. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Scale.lean ====
/-
  The scale of one row, as a function of the row's ratio `amax / 448`.

  The kernel counts the powers of two above the ratio, one for each value of an f32 exponent field, and builds the scale
  and its inverse from the count by shifts. The reference takes the floor of the logarithm to the base two and raises two
  to the next integer. Over the extended reals the two agree for every ratio from zero up to `2 ^ 126`.
-/
module

public import Idealize.ShloMosaic.Lib.Pipeline.ValueKit
public import Idealize.ShloMosaic.Lib.IndicatorCount
public import Mathlib.Order.Interval.Finset.Fin

@[expose] public section

set_option maxRecDepth 16384

noncomputable section

namespace Cert.Scale

open Idealize.ShloMosaic

/-- The f32 value with exponent field `b`, sign and fraction zero. -/
def fld (b : BitVec 32) : EReal := Ideal.ofBits .f32 (IntOp.shli ArithUnit.vector b 23#32)

/-- How many of the 256 field values lie above the ratio `r`. -/
def above (r : EReal) : BitVec 32 :=
  Finset.univ.fold IntOp.addi 0#32 fun x : Fin 256 => BitVec.setWidth 32 (BitVec.ofBool (decide (r < fld (BitVec.ofNat 32 x))))

/-- The exponent field of the ratio, by the count. -/
def field (r : EReal) : BitVec 32 := IntOp.subi 255#32 (above r)

/-- The field of the scale when the exponent field `b` is a normal number's (`e` then), 127 otherwise. -/
def pick (b e : BitVec 32) : BitVec 32 :=
  Scalar.select (IntOp.andi (IntOp.cmpi .ne b 0#32) (IntOp.cmpi .ne b 255#32)) e 127#32

/-- The kernel's scale from the exponent field. -/
def scaleOf (b : BitVec 32) : EReal := fld (pick b (IntOp.addi b 1#32))

/-- The kernel's inverse scale from the exponent field. -/
def invOf (b : BitVec 32) : EReal := fld (pick b (IntOp.subi 253#32 b))

/-- The reference's exponent: one more than the floor of the base-two logarithm, or zero below the least normal number. -/
def rexp (r : EReal) : EReal :=
  Scalar.select (BitVec.ofBool (decide (r < Ideal.ofBits .f32 0x00800000#32))) (Ideal.ofBits .f32 0x00000000#32)
    (Ideal.liftRound Int.floor (Ideal.div (Ideal.log r) (Ideal.log (Ideal.ofBits .f32 0x40000000#32)))
      + Ideal.ofBits .f32 0x3F800000#32)

/-- The reference's scale. -/
def rscale (r : EReal) : EReal := Ideal.pow (Ideal.ofBits .f32 0x40000000#32) (rexp r)

/-- The reference's inverse scale. -/
def rinv (r : EReal) : EReal := Ideal.pow (Ideal.ofBits .f32 0x40000000#32) (-rexp r)

/-- The sign, exponent and fraction of the word with exponent field `x` alone. -/
theorem parts : ∀ x : Fin 256,
    (IntOp.shli ArithUnit.vector (BitVec.ofNat 32 x) 23#32).extractLsb' 31 1 = 0#1
      ∧ ((IntOp.shli ArithUnit.vector (BitVec.ofNat 32 x) 23#32).extractLsb' 23 8).toNat = x.val
      ∧ ((IntOp.shli ArithUnit.vector (BitVec.ofNat 32 x) 23#32).extractLsb' 0 23).toNat = 0 := by
  decide +kernel

/-- The value of an f32 word with sign and fraction zero, by its exponent field. -/
theorem ieee_of_parts (b : BitVec 32) (x : ℕ) (h1 : b.extractLsb' 31 1 = 0#1) (h2 : (b.extractLsb' 23 8).toNat = x)
    (h3 : (b.extractLsb' 0 23).toNat = 0) :
    Ideal.ofBits .f32 b =
      if x = 255 then ⊤ else if x = 0 then 0 else (((2 : ℝ) ^ ((x : ℤ) - 127) : ℝ) : EReal) := by
  show Ideal.ieee 8 23 b = _
  unfold Ideal.ieee
  rw [show b.extractLsb' (8 + 23) 1 = 0#1 from h1, h2, h3]
  by_cases a : x = 255
  · simp [a]
  · by_cases c : x = 0
    · simp [c]
    · dsimp only
      rw [if_neg (by simpa using a), if_neg c, if_neg a, if_neg c]
      congr 1
      have : ((x : ℤ) - (2 ^ (8 - 1) - 1) - (23 : ℕ)) = ((x : ℤ) - 127) - 23 := by norm_num
      rw [this, zpow_sub₀ (by norm_num)]
      norm_num
      ring

/-- Field zero is zero, field 255 is infinity, any other field `x` is `2 ^ (x - 127)`. -/
theorem fld_ofNat (x : Fin 256) :
    fld (BitVec.ofNat 32 x) =
      if x.val = 255 then ⊤ else if x.val = 0 then 0 else (((2 : ℝ) ^ ((x.val : ℤ) - 127) : ℝ) : EReal) :=
  ieee_of_parts _ x.val (parts x).1 (parts x).2.1 (parts x).2.2

/-- A normal exponent field, read as a float, is its power of two. -/
theorem fld_normal (x : Fin 256) (h0 : x.val ≠ 0) (h1 : x.val ≠ 255) :
    fld (BitVec.ofNat 32 x) = (((2 : ℝ) ^ ((x.val : ℤ) - 127) : ℝ) : EReal) := by
  rw [fld_ofNat, if_neg h1, if_neg h0]

/-- If the ratio lies below exactly the fields from `m` on, its exponent field is `m - 1`. -/
theorem field_of (r : EReal) (m : Fin 256) (hm : 1 ≤ m.val)
    (h : ∀ x : Fin 256, r < fld (BitVec.ofNat 32 x) ↔ m ≤ x) : field r = BitVec.ofNat 32 (m.val - 1) := by
  have e : above r = BitVec.ofNat 32 (256 - m.val) := by
    unfold above
    rw [IndicatorCount.fold_addi_setWidth_eq_card]
    congr 1
    rw [← Fin.card_Ici m]
    congr 1
    ext x
    simp only [Finset.mem_filter, Finset.mem_univ, true_and, Finset.mem_Ici, h x]
    by_cases c : m ≤ x <;> simp [c]
  rw [field, e]
  show 255#32 - _ = _
  apply BitVec.eq_of_toNat_eq
  have := m.isLt
  simp only [BitVec.toNat_sub, BitVec.toNat_ofNat]
  omega

/-- The scale of the exponent field 0 is one. -/
theorem scaleOf_zero : scaleOf (BitVec.ofNat 32 0) = 1 := by
  have e : pick (BitVec.ofNat 32 0) (IntOp.addi (BitVec.ofNat 32 0) 1#32) = BitVec.ofNat 32 (127 : Fin 256).val := by
    decide +kernel
  rw [scaleOf, e, fld_normal _ (by decide) (by decide)]
  norm_num

/-- The inverse scale of the exponent field 0 is one. -/
theorem invOf_zero : invOf (BitVec.ofNat 32 0) = 1 := by
  have e : pick (BitVec.ofNat 32 0) (IntOp.subi 253#32 (BitVec.ofNat 32 0)) = BitVec.ofNat 32 (127 : Fin 256).val := by
    decide +kernel
  rw [invOf, e, fld_normal _ (by decide) (by decide)]
  norm_num

/-- The bits that the kernel forms for the scale of a normal field, as the next field's. -/
theorem pick_scale : ∀ m : Fin 256, 2 ≤ m.val → m.val ≤ 253 →
    pick (BitVec.ofNat 32 (m.val - 1)) (IntOp.addi (BitVec.ofNat 32 (m.val - 1)) 1#32) = BitVec.ofNat 32 m.val := by
  decide +kernel

/-- The bits that the kernel forms for the inverse scale of a normal field, as a field's. -/
theorem pick_inv : ∀ m : Fin 256, 2 ≤ m.val → m.val ≤ 253 →
    pick (BitVec.ofNat 32 (m.val - 1)) (IntOp.subi 253#32 (BitVec.ofNat 32 (m.val - 1)))
      = BitVec.ofNat 32 (254 - m.val) := by
  decide +kernel

/-- The float of these bits is two. -/
theorem two_f32 : Ideal.ofBits .f32 0x40000000#32 = ((2 : ℝ) : EReal) := by
  rw [ieee_of_parts _ 128 (by decide +kernel) (by decide +kernel) (by decide +kernel)]
  norm_num

/-- The float of these bits is the least normal one. -/
theorem tiny_f32 : Ideal.ofBits .f32 0x00800000#32 = (((2 : ℝ) ^ (-126 : ℤ) : ℝ) : EReal) := by
  rw [ieee_of_parts _ 1 (by decide +kernel) (by decide +kernel) (by decide +kernel)]
  norm_num

/-- The float of these bits is zero. -/
theorem zero_f32 : Ideal.ofBits .f32 0x00000000#32 = 0 := by simp [Ideal.ofBits, Ideal.ieee]

/-- The float of these bits is one. -/
theorem one_f32 : Ideal.ofBits .f32 0x3F800000#32 = ((1 : ℝ) : EReal) := by
  rw [ieee_of_parts _ 127 (by decide +kernel) (by decide +kernel) (by decide +kernel)]
  norm_num

/-- Two to an integer. -/
theorem pow_two_int (n : ℤ) : Ideal.pow ((2 : ℝ) : EReal) (((n : ℝ)) : EReal) = (((2 : ℝ) ^ n : ℝ) : EReal) := by
  show (((2 : ℝ).rpow (n : ℝ) : ℝ) : EReal) = _
  congr 1
  exact Real.rpow_intCast 2 n

/-- Below the least normal number the fields above the ratio are those from one on. -/
theorem small (r : EReal) (h0 : 0 ≤ r) (h : r < (((2 : ℝ) ^ (-126 : ℤ) : ℝ) : EReal)) (x : Fin 256) :
    r < fld (BitVec.ofNat 32 x) ↔ (1 : Fin 256) ≤ x := by
  rw [fld_ofNat]
  by_cases a : x.val = 255
  · rw [if_pos a]
    refine ⟨fun _ => Fin.le_def.2 (by rw [a]; decide), fun _ => h.trans_le le_top⟩
  · rw [if_neg a]
    by_cases b : x.val = 0
    · rw [if_pos b]
      refine ⟨fun h' => absurd h0 (not_le.2 h'), fun h' => ?_⟩
      have := Fin.le_def.1 h'
      rw [b] at this
      exact absurd this (by decide)
    · rw [if_neg b]
      refine ⟨fun _ => Fin.le_def.2 (by show 1 ≤ x.val; omega), fun _ => h.trans_le ?_⟩
      rw [EReal.coe_le_coe_iff]
      exact zpow_le_zpow_right₀ (by norm_num) (by omega)

/-- A normal ratio: the fields above it are those from `n + 128` on, where `n` is the floor of its logarithm. -/
theorem normal (r : ℝ) (h0 : (2 : ℝ) ^ (-126 : ℤ) ≤ r) (h1 : r < (2 : ℝ) ^ (126 : ℤ)) :
    ∃ m : Fin 256, 2 ≤ m.val ∧ m.val ≤ 253 ∧ (m.val : ℤ) = ⌊Real.log r / Real.log 2⌋ + 128
      ∧ ∀ x : Fin 256, (r : EReal) < fld (BitVec.ofNat 32 x) ↔ m ≤ x := by
  have hp : 0 < r := lt_of_lt_of_le (by positivity) h0
  have hl : 0 < Real.log 2 := Real.log_pos (by norm_num)
  have k (z : ℤ) : r < (2 : ℝ) ^ z ↔ ⌊Real.log r / Real.log 2⌋ < z := by
    rw [Int.floor_lt, div_lt_iff₀ hl, ← Real.log_zpow, Real.log_lt_log_iff hp (by positivity)]
  generalize ⌊Real.log r / Real.log 2⌋ = n at k ⊢
  have a := (k 126).1 h1
  have b : ¬ n < -126 := fun h => absurd ((k (-126)).2 h) (not_lt.2 h0)
  refine ⟨⟨(n + 128).toNat, by omega⟩, by show 2 ≤ (n + 128).toNat; omega,
    by show (n + 128).toNat ≤ 253; omega, ?_, fun x => ?_⟩
  · show (((n + 128).toNat : ℕ) : ℤ) = _
    omega
  · rw [fld_ofNat, Fin.le_def]
    show _ ↔ (n + 128).toNat ≤ x.val
    by_cases c : x.val = 255
    · rw [if_pos c]
      exact ⟨fun _ => by omega, fun _ => EReal.coe_lt_top r⟩
    · rw [if_neg c]
      by_cases d : x.val = 0
      · rw [if_pos d]
        refine ⟨fun h => absurd h (not_lt.2 (by exact_mod_cast hp.le)), fun h => by omega⟩
      · rw [if_neg d, EReal.coe_lt_coe_iff, k]
        omega

/-- The reference's exponent of a normal ratio. -/
theorem rexp_normal (r : ℝ) (h0 : (2 : ℝ) ^ (-126 : ℤ) ≤ r) :
    rexp (r : EReal) = (((⌊Real.log r / Real.log 2⌋ + 1 : ℤ) : ℝ) : EReal) := by
  have hp : 0 < r := lt_of_lt_of_le (by positivity) h0
  unfold rexp
  rw [tiny_f32, two_f32, one_f32, decide_eq_false (by rw [EReal.coe_lt_coe_iff]; exact not_lt.2 h0)]
  show Ideal.liftRound Int.floor (Ideal.div (Ideal.log (r : EReal)) (Ideal.log ((2 : ℝ) : EReal))) + _ = _
  have l1 : Ideal.log (r : EReal) = (Real.log r : EReal) := if_neg (not_le.2 hp)
  have l2 : Ideal.log ((2 : ℝ) : EReal) = (Real.log 2 : EReal) := if_neg (by norm_num)
  have hl : Real.log 2 ≠ 0 := (Real.log_pos (by norm_num)).ne'
  rw [l1, l2, Ideal.div, if_neg (by exact_mod_cast hl), ← EReal.coe_inv, ← EReal.coe_mul, ← div_eq_mul_inv]
  show ((⌊Real.log r / Real.log 2⌋ : ℝ) : EReal) + _ = _
  rw [← EReal.coe_add]
  push_cast
  rfl

/-- Below the least normal number the reference's exponent is zero. -/
theorem rexp_small (r : EReal) (h : r < (((2 : ℝ) ^ (-126 : ℤ) : ℝ) : EReal)) : rexp r = 0 := by
  unfold rexp
  rw [tiny_f32, decide_eq_true h, zero_f32]
  rfl

/-- Two to the power zero is one. -/
theorem pow_two_zero : Ideal.pow ((2 : ℝ) : EReal) 0 = 1 := by
  have := pow_two_int 0
  simpa using this

/-- The kernel's scale is the reference's, and so is the inverse. -/
theorem scale_inv (r : EReal) (h0 : 0 ≤ r) (h1 : r < (((2 : ℝ) ^ (126 : ℤ) : ℝ) : EReal)) :
    scaleOf (field r) = rscale r ∧ invOf (field r) = rinv r := by
  unfold rscale rinv
  rw [two_f32]
  by_cases hs : r < (((2 : ℝ) ^ (-126 : ℤ) : ℝ) : EReal)
  · have f : field r = BitVec.ofNat 32 0 := field_of r 1 (by decide) (small r h0 hs)
    rw [f, scaleOf_zero, invOf_zero, rexp_small r hs, neg_zero, pow_two_zero]
    exact ⟨rfl, rfl⟩
  · have ht : r ≠ ⊤ := (h1.trans_le le_top).ne
    have hb : r ≠ ⊥ := fun e => by rw [e] at h0; exact absurd h0 (by simp)
    lift r to ℝ using ⟨ht, hb⟩
    rw [EReal.coe_lt_coe_iff, not_lt] at hs
    rw [EReal.coe_lt_coe_iff] at h1
    obtain ⟨m, m2, m253, em, hm⟩ := normal r hs h1
    rw [field_of _ m (by omega) hm, rexp_normal r hs]
    refine ⟨?_, ?_⟩
    · rw [scaleOf, pick_scale m m2 m253, fld_normal m (by omega) (by omega), pow_two_int]
      congr 2
      omega
    · have e := fld_normal ⟨254 - m.val, by omega⟩ (by show 254 - m.val ≠ 0; omega) (by show 254 - m.val ≠ 255; omega)
      rw [invOf, pick_inv m m2 m253, e, ← EReal.coe_neg, ← Int.cast_neg, pow_two_int]
      congr 2
      show ((254 - m.val : ℕ) : ℤ) - 127 = _
      omega

end Cert.Scale
-- ==== Proof.Spec.lean ====
/-
  The problem's mathematics over the extended reals, entry by entry: the window of three taps that each output row reads,
  the row's scale and inverse scale, the quantised window, the product with the weights, and the result.
-/
module

public import proofs.«01_k».proof.Proof.Scale

@[expose] public section

noncomputable section

namespace Cert.Spec

open Idealize.ShloMosaic

/-- Entry `q` of the window of row `r` of batch `b`: the row before the pair (zero before the first pair), then the pair's
    even row, then its odd row. -/
def win (X : Fin 3 → Fin 8192 → Fin 1280 → EReal) (b : Fin 3) (r : Fin 4096) (q : Fin 3840) : EReal :=
  if h : q.val < 1280 then
    if 1 ≤ r.val then X b ⟨2 * r.val - 1, by omega⟩ ⟨q.val, h⟩ else 0
  else if h' : q.val < 2560 then X b ⟨2 * r.val, by omega⟩ ⟨q.val - 1280, by omega⟩
  else X b ⟨2 * r.val + 1, by omega⟩ ⟨q.val - 2560, by omega⟩

/-- The magnitude of an entry. -/
def mag (x : EReal) : EReal := FloatOps.absf (F := Ideal) (φ := .f32) x

/-- The greatest magnitude of a window, over 448. -/
def ratio (X : Fin 3 → Fin 8192 → Fin 1280 → EReal) (b : Fin 3) (r : Fin 4096) : EReal :=
  Finset.univ.fold max (Ideal.ofBits .f32 0xFF800000#32) (fun q => mag (win X b r q)) * Ideal.ofBits .f32 0x3B124925#32

/-- An entry times the inverse scale, clipped to 448. -/
def clip (x inv : EReal) : EReal :=
  min (Ideal.ofBits .f32 0x43E00000#32) (max (Ideal.ofBits .f32 0xC3E00000#32) (x * inv))

/-- The quantised window. -/
def code (X : Fin 3 → Fin 8192 → Fin 1280 → EReal) (b : Fin 3) (r : Fin 4096) (q : Fin 3840) : EReal :=
  clip (win X b r q) (Scale.rinv (ratio X b r))

/-- The activation. -/
def gelu (z : EReal) : EReal :=
  Ideal.ofBits .f32 0x3F000000#32 * z * (1 + FloatOps.erf (F := Ideal) (φ := .f32) (z * Ideal.ofBits .f32 0x3F3504F3#32))

/-- The result at row `r` of batch `b` and output channel `j`. -/
def out (X : Fin 3 → Fin 8192 → Fin 1280 → EReal) (W : Fin 3072 → Fin 1280 → Fin 3 → EReal) (s d : Fin 3072 → EReal)
    (b : Fin 3) (r : Fin 4096) (j : Fin 3072) : EReal :=
  gelu ((∑ q : Fin 3840, code X b r q * W j ⟨q.val % 1280, Nat.mod_lt _ (by norm_num)⟩ ⟨q.val / 1280, by omega⟩)
    * Scale.rscale (ratio X b r) * s j + d j)

/-- Row `r` of the result lies in this batch. -/
abbrev bat (r : Fin 12288) : Fin 3 := ⟨r.val / 4096, by omega⟩
/-- Row `r` of the result is this row of its batch. -/
abbrev row (r : Fin 12288) : Fin 4096 := ⟨r.val % 4096, by omega⟩

/-- The scales lie in 24 blocks of 4 groups of 128 rows: the scale of row `l` of group `k` of block `t`. -/
def scaleAt (X : Fin 3 → Fin 8192 → Fin 1280 → EReal) (t : Fin 24) (k : Fin 4) (l : Fin 128) : EReal :=
  Scale.rscale (ratio X (bat ⟨512 * t.val + 128 * k.val + l.val, by omega⟩) (row ⟨512 * t.val + 128 * k.val + l.val, by omega⟩))

end Cert.Spec
-- ==== Proof.KerPay.lean ====
/-
  The kernel's vector expressions at the extended reals, entry by entry.
-/
module

public import proofs.«01_k».proof.Proof.Run
public import proofs.«01_k».proof.Proof.Spec

@[expose] public section

set_option maxRecDepth 16384

noncomputable section

namespace Cert.KernelIdeal.Hand

open Cert.KernelIdeal.Gen
open Idealize.ShloMosaic Idealize.ShloMosaic.TcCoe Idealize.ShloMosaic.Tactic

/-- The even rows of a trip's 64. -/
theorem pay2_apply (v : Vec Ideal S64x1280 .bf16) (i : Fin 32) (q : Fin 1280) :
    (k0_pay2 v (ix2 i q) : EReal) = v (ix2 ⟨2 * i.val, by omega⟩ q) := by
  pointwise [k0_pay2]

/-- The odd rows of a trip's 64. -/
theorem pay3_apply (v : Vec Ideal S64x1280 .bf16) (i : Fin 32) (q : Fin 1280) :
    (k0_pay3 v (ix2 i q) : EReal) = v (ix2 ⟨2 * i.val + 1, by omega⟩ q) := by
  pointwise [k0_pay3]

/-- The previous rows: the odd rows moved down by one, with the carried row first. -/
theorem pay4_apply (v : Vec Ideal S64x1280 .bf16) (c : Vec Ideal S8x1280 .f32) (i : Fin 32) (q : Fin 1280) :
    (k0_pay4 k0_pay15 v c (ix2 i q) : EReal)
      = Scalar.select (IntOp.cmpi .eq (BitVec.ofNat 32 i.val) 0#32) (c (ix2 0 q)) (v (ix2 ⟨2 * ((i.val + 32 - 1) % 32) + 1, by omega⟩ q)) := by
  pointwise [k0_pay4, k0_pay15, k0_pay3]

/-- The row carried on is the last odd row. -/
theorem pay5_apply (v : Vec Ideal S64x1280 .bf16) (i : Fin 8) (q : Fin 1280) :
    (k0_pay5 v (ix2 i q) : EReal) = v (ix2 63 q) := by
  pointwise [k0_pay5, k0_pay3]

/-- The exponent field of a row's ratio. -/
theorem pay6_apply (v : Vec Ideal S64x1280 .bf16) (c : Vec Ideal S8x1280 .f32) (i : Fin 32) :
    k0_pay6 k0_pay15 v c (ix2 i 0)
      = Scale.field (Finset.univ.fold max (Ideal.ofBits .f32 0xFF800000#32) (fun q : Fin 1280 =>
          max (max (Spec.mag (k0_pay2 v (ix2 i q))) (Spec.mag (k0_pay3 v (ix2 i q)))) (Spec.mag (k0_pay4 k0_pay15 v c (ix2 i q))))
          * Ideal.ofBits .f32 0x3B124925#32) := by
  unfold Scale.field Scale.above Scale.fld Spec.mag
  pointwise [k0_pay6]

/-- The inverse scale of an exponent field. -/
theorem pay8_apply (b : IVec S32x1 32) (i : Fin 32) : (k0_pay8 (F := Ideal) b (ix2 i 0) : EReal) = Scale.invOf (b (ix2 i 0)) := by
  unfold Scale.invOf Scale.pick Scale.fld
  pointwise [k0_pay8, k0_pay7]

/-- The scale of an exponent field, along 128 lanes. -/
theorem pay9_apply (b : IVec S32x1 32) (i : Fin 32) (l : Fin 128) : (k0_pay9 (F := Ideal) b (ix2 i l) : EReal) = Scale.scaleOf (b (ix2 i 0)) := by
  unfold Scale.scaleOf Scale.pick Scale.fld
  pointwise [k0_pay9, k0_pay7]

/-- The previous rows' codes. -/
theorem pay10_apply (p : FVec Ideal S32x1280 .f32) (b : IVec S32x1 32) (i : Fin 32) (q : Fin 1280) :
    (k0_pay10 p b (ix2 i q) : EReal) = Spec.clip (p (ix2 i q)) (k0_pay8 (F := Ideal) b (ix2 i 0)) := by
  unfold Spec.clip
  pointwise [k0_pay10]

/-- The previous rows' codes, as the product reads them. -/
theorem pay11_apply (p : FVec Ideal S32x1280 .f32) (b : IVec S32x1 32) (i : Fin 32) (q : Fin 1280) :
    (k0_pay11 p b (ix2 i q) : EReal) = Spec.clip (p (ix2 i q)) (k0_pay8 (F := Ideal) b (ix2 i 0)) := by
  unfold Spec.clip
  pointwise [k0_pay11, k0_pay10]

/-- The even rows' codes. -/
theorem pay16_apply (p : FVec Ideal S32x1280 .f32) (b : IVec S32x1 32) (i : Fin 32) (q : Fin 1280) :
    (k0_pay16 (k0_pay12 p b) (Scalar.ofBits .f32 0x43E00000#32) k0_pay13 (ix2 i q) : EReal) = Spec.clip (p (ix2 i q)) (k0_pay8 (F := Ideal) b (ix2 i 0)) := by
  unfold Spec.clip
  pointwise [k0_pay16, k0_pay12, k0_pay13]

/-- The even rows' codes, as the product reads them. -/
theorem pay17_apply (p : FVec Ideal S32x1280 .f32) (b : IVec S32x1 32) (i : Fin 32) (q : Fin 1280) :
    (k0_pay17 (k0_pay12 p b) (Scalar.ofBits .f32 0x43E00000#32) k0_pay13 (ix2 i q) : EReal) = Spec.clip (p (ix2 i q)) (k0_pay8 (F := Ideal) b (ix2 i 0)) := by
  unfold Spec.clip
  pointwise [k0_pay17, k0_pay16, k0_pay12, k0_pay13]

/-- The odd rows' codes. -/
theorem pay18_apply (p : FVec Ideal S32x1280 .f32) (s : FVec Ideal S32x1 .f32) (i : Fin 32) (q : Fin 1280) :
    (k0_pay18 p s (ix2 i q) : EReal) = Spec.clip (p (ix2 i q)) (s (ix2 i 0)) := by
  unfold Spec.clip
  pointwise [k0_pay18]

/-- The odd rows' codes, as the product reads them. -/
theorem pay19_apply (p : FVec Ideal S32x1280 .f32) (s : FVec Ideal S32x1 .f32) (i : Fin 32) (q : Fin 1280) :
    (k0_pay19 p s (ix2 i q) : EReal) = Spec.clip (p (ix2 i q)) (s (ix2 i 0)) := by
  unfold Spec.clip
  pointwise [k0_pay19, k0_pay18]

/-- Lane `l` of the row of scales: a sum with one term that is not zero. -/
theorem pay21_sum (s : Vec Ideal S128x128 .f32) (l : Fin 128) :
    (k0_pay21 s (ix3 0 0 l) : EReal)
      = ∑ x : Fin 128, Scalar.select (IntOp.cmpi .eq (BitVec.ofNat 32 x.val) (BitVec.ofNat 32 l.val)) (s (ix2 x l) : EReal) 0 := by
  pointwise [k0_pay21, k0_pay20]

/-- The activation of the three products' sum, scaled and shifted. -/
theorem pay31_apply (q0 q1 q2 : Vec Ideal S512x1280 .bf16) (w0 w1 w2 : Vec Ideal S1x512x1280 .fp8e4m3) (s : Vec Ideal S512x1 .f32)
    (ws b : Vec Ideal S1x512 .f32) (i j : Fin 512) :
    (k0_pay31 q0 w0 q1 w1 q2 w2 s ws b (ix2 i j) : EReal)
      = Spec.gelu (((∑ x : Fin 1280, (q0 (ix2 i x) : EReal) * w0 (ix3 0 j x)) + (∑ x : Fin 1280, (q1 (ix2 i x) : EReal) * w1 (ix3 0 j x))
          + ∑ x : Fin 1280, (q2 (ix2 i x) : EReal) * w2 (ix3 0 j x)) * s (ix2 i 0) * ws (ix2 0 j) + b (ix2 0 j)) := by
  unfold Spec.gelu
  pointwise [k0_pay31]

/-- Where a batch starts the carried row is zero. -/
theorem pay14_apply (i : Fin 8) (q : Fin 1280) : (k0_pay14 (F := Ideal) (ix2 i q) : EReal) = 0 := by
  pointwise [k0_pay14]

end Cert.KernelIdeal.Hand

end
-- ==== Proof.KerBlock.lean ====
/-
  What one block of the kernel computes, when its input block is 1024 consecutive rows of a batch: the specification's codes,
  scales and results of the 512 windows that end in those rows.
-/
module

public import proofs.«01_k».proof.Proof.KerPay

@[expose] public section

set_option maxRecDepth 16384

noncomputable section

namespace Cert.KernelIdeal.Hand

open Cert.KernelIdeal.Gen
open Idealize.ShloMosaic Idealize.ShloMosaic.TcCoe Idealize.ShloMosaic.Tactic

/-- A choice by the equality of two counters. -/
theorem select_counters {α : Type} (a b : ℕ) (ha : a < 2 ^ 32) (hb : b < 2 ^ 32) (x y : α) :
    Scalar.select (IntOp.cmpi .eq (BitVec.ofNat 32 a) (BitVec.ofNat 32 b)) x y = if a = b then x else y := by
  by_cases h : a = b
  · subst h
    simp [IntOp.cmpi, Scalar.select]
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp [IntOp.cmpi, Scalar.select, beq_false_of_ne hne, h]

/-- The greatest of three thirds taken together is the greatest of the whole. -/
theorem fold_max_thirds (z : EReal) (f : Fin 3840 → EReal) :
    Finset.univ.fold max z (fun q : Fin 1280 => max (max (f ⟨1280 + q.val, by omega⟩) (f ⟨2560 + q.val, by omega⟩)) (f ⟨q.val, by omega⟩))
      = Finset.univ.fold max z f := by
  apply le_antisymm
  · rw [Finset.fold_max_le]
    refine ⟨(Finset.le_fold_max _).2 (Or.inl le_rfl), fun q _ => ?_⟩
    refine max_le (max_le ?_ ?_) ?_ <;> exact (Finset.le_fold_max _).2 (Or.inr ⟨_, Finset.mem_univ _, le_rfl⟩)
  · rw [Finset.fold_max_le]
    refine ⟨(Finset.le_fold_max _).2 (Or.inl le_rfl), fun q _ => ?_⟩
    by_cases h : q.val < 1280
    · exact (Finset.le_fold_max _).2 (Or.inr ⟨⟨q.val, h⟩, Finset.mem_univ _, le_max_right _ _⟩)
    · by_cases h' : q.val < 2560
      · refine (Finset.le_fold_max _).2 (Or.inr ⟨⟨q.val - 1280, by omega⟩, Finset.mem_univ _, ?_⟩)
        refine le_trans (le_of_eq (congrArg f (Fin.ext ?_))) ((le_max_left _ _).trans (le_max_left _ _))
        show q.val = 1280 + (q.val - 1280); omega
      · refine (Finset.le_fold_max _).2 (Or.inr ⟨⟨q.val - 2560, by omega⟩, Finset.mem_univ _, ?_⟩)
        refine le_trans (le_of_eq (congrArg f (Fin.ext ?_))) ((le_max_right _ _).trans (le_max_left _ _))
        show q.val = 2560 + (q.val - 2560); omega

/-- A sum over three thirds is the sum over the whole. -/
theorem sum_thirds (f : Fin 3840 → EReal) :
    (∑ q : Fin 1280, f ⟨q.val, by omega⟩) + (∑ q : Fin 1280, f ⟨1280 + q.val, by omega⟩) + ∑ q : Fin 1280, f ⟨2560 + q.val, by omega⟩
      = ∑ q : Fin 3840, f q := by
  have e1 := Fin.sum_univ_add (a := 1280 + 1280) (b := 1280) f
  have e2 := Fin.sum_univ_add (a := 1280) (b := 1280) (fun i => f (Fin.castAdd 1280 i))
  exact ((e1.trans (congrArg (· + _) e2)).symm)

/-- Row `i` of trip `k`'s 64. -/
theorem raw_apply (x : Vec Ideal S1024x1280 .bf16) (k : Fin k0_t1_loop.trips) (i : Fin 64) (q : Fin 1280) (s : Fin 1024)
    (h : s.val = 64 * k.val + i.val) : (raw x k (ix2 i q) : EReal) = x (ix2 s q) := by
  refine View.ld_unit_apply_of (S := S1024x1280) x (k0_off1 k) S64x1280.size (k0_off1_inb k) (ix2 i q) (ix2 s q) fun a => ?_
  refine Eq.trans ?_ (congrArg (· + _) (congrFun (k0_off1_eq k) a).symm)
  match a with
  | 0 => exact h
  | 1 => exact (Nat.zero_add _).symm

/-- The carried row before trip `k`: the row the block found, or the last row of the trip before. -/
theorem carry_apply (x : Vec Ideal S1024x1280 .bf16) (xs : Vec Ideal S8x1280 .f32) (k : ℕ) (hk : k < 16) (q : Fin 1280) :
    (carry x xs k (ix2 0 q) : EReal) = if h : k = 0 then xs (ix2 0 q) else x (ix2 ⟨64 * k - 1, by omega⟩ q) := by
  cases k with
  | zero => rfl
  | succ k =>
    have hk' : k < k0_t1_loop.trips := by rw [trips_eq]; omega
    rw [carry, dif_pos hk', dif_neg (Nat.succ_ne_zero k), pay5_apply]
    exact raw_apply x ⟨k, hk'⟩ 63 q _ (by show 64 * (k + 1) - 1 = 64 * k + 63; omega)

/-- The block `x` with the carried row `xs` holds rows `1024 u …` of batch `b`, and the row before them (zero where the batch
    starts). -/
structure Holds (X : Fin 3 → Fin 8192 → Fin 1280 → EReal) (b : Fin 3) (u : Fin 8) (x : Vec Ideal S1024x1280 .bf16)
    (xs : Vec Ideal S8x1280 .f32) : Prop where
  rows : ∀ (s : Fin 1024) (q : Fin 1280), (x (ix2 s q) : EReal) = X b ⟨1024 * u.val + s.val, by omega⟩ q
  first : ∀ q : Fin 1280, (xs (ix2 0 q) : EReal) = if h : u.val = 0 then 0 else X b ⟨1024 * u.val - 1, by omega⟩ q

variable {X : Fin 3 → Fin 8192 → Fin 1280 → EReal} {b : Fin 3} {u : Fin 8} {x : Vec Ideal S1024x1280 .bf16} {xs : Vec Ideal S8x1280 .f32}

/-- The row of the batch that row `r` of the block is. -/
abbrev rowOf (u : Fin 8) (r : Fin 512) : Fin 4096 := ⟨512 * u.val + r.val, by omega⟩
/-- The row inside its trip. -/
abbrev sub (r : Fin 512) : Fin 32 := ⟨r.val % 32, by omega⟩

/-- The previous rows are the windows' first third. -/
theorem prev_win (H : Holds X b u x xs) (r : Fin 512) (q : Fin 1280) (p : Fin 3840) (hp : p.val = q.val) :
    (prevT x (carry x xs (r.val / 32)) (tripOf r) (ix2 (sub r) q) : EReal) = Spec.win X b (rowOf u r) p := by
  have hr := r.isLt
  unfold prevT
  rw [pay4_apply, select_counters _ _ (by have := (sub r).isLt; omega) (by norm_num)]
  unfold Spec.win
  refine Eq.trans ?_ (dif_pos (show p.val < 1280 by omega)).symm
  have hq : (⟨p.val, by omega⟩ : Fin 1280) = q := Fin.ext hp
  by_cases h : r.val % 32 = 0
  · rw [if_pos h, carry_apply x xs _ (by omega)]
    by_cases h0 : r.val / 32 = 0
    · rw [dif_pos h0, H.first]
      by_cases hu : u.val = 0
      · rw [dif_pos hu, if_neg (by show ¬ 1 ≤ 512 * u.val + r.val; omega)]
      · rw [dif_neg hu, if_pos (by show 1 ≤ 512 * u.val + r.val; omega)]
        exact congrArg₂ (X b) (Fin.ext (by show 1024 * u.val - 1 = 2 * (512 * u.val + r.val) - 1; omega)) hq.symm
    · rw [dif_neg h0, H.rows, if_pos (by show 1 ≤ 512 * u.val + r.val; omega)]
      exact congrArg₂ (X b) (Fin.ext (by show 1024 * u.val + (64 * (r.val / 32) - 1) = 2 * (512 * u.val + r.val) - 1; omega)) hq.symm
  · rw [if_neg h, raw_apply x (tripOf r) _ q ⟨2 * r.val - 1, by omega⟩
      (by show 2 * r.val - 1 = 64 * (r.val / 32) + (2 * ((r.val % 32 + 32 - 1) % 32) + 1); omega),
      H.rows, if_pos (by show 1 ≤ 512 * u.val + r.val; omega)]
    exact congrArg₂ (X b) (Fin.ext (by show 1024 * u.val + (2 * r.val - 1) = 2 * (512 * u.val + r.val) - 1; omega)) hq.symm

/-- The even rows are the windows' second third. -/
theorem even_win (H : Holds X b u x xs) (r : Fin 512) (q : Fin 1280) (p : Fin 3840) (hp : p.val = 1280 + q.val) :
    (k0_pay2 (raw x (tripOf r)) (ix2 (sub r) q) : EReal) = Spec.win X b (rowOf u r) p := by
  have hr := r.isLt
  rw [pay2_apply, raw_apply x (tripOf r) _ q ⟨2 * r.val, by omega⟩ (by show 2 * r.val = 64 * (r.val / 32) + 2 * (r.val % 32); omega), H.rows]
  unfold Spec.win
  rw [dif_neg (show ¬ p.val < 1280 by omega), dif_pos (show p.val < 2560 by omega)]
  exact congrArg₂ (X b) (Fin.ext (by show 1024 * u.val + 2 * r.val = 2 * (512 * u.val + r.val); omega)) (Fin.ext (by show q.val = p.val - 1280; omega))

/-- The odd rows are the windows' last third. -/
theorem odd_win (H : Holds X b u x xs) (r : Fin 512) (q : Fin 1280) (p : Fin 3840) (hp : p.val = 2560 + q.val) :
    (k0_pay3 (raw x (tripOf r)) (ix2 (sub r) q) : EReal) = Spec.win X b (rowOf u r) p := by
  have hr := r.isLt
  rw [pay3_apply, raw_apply x (tripOf r) _ q ⟨2 * r.val + 1, by omega⟩ (by show 2 * r.val + 1 = 64 * (r.val / 32) + (2 * (r.val % 32) + 1); omega), H.rows]
  unfold Spec.win
  rw [dif_neg (show ¬ p.val < 1280 by omega), dif_neg (show ¬ p.val < 2560 by omega)]
  exact congrArg₂ (X b) (Fin.ext (by show 1024 * u.val + (2 * r.val + 1) = 2 * (512 * u.val + r.val) + 1; omega)) (Fin.ext (by show q.val = p.val - 2560; omega))

/-- The exponent field of a row is that of its window's ratio. -/
theorem bias_field (H : Holds X b u x xs) (r : Fin 512) :
    biasT x (carry x xs (r.val / 32)) (tripOf r) (ix2 (sub r) 0) = Scale.field (Spec.ratio X b (rowOf u r)) := by
  unfold biasT
  rw [pay6_apply, Spec.ratio, ← fold_max_thirds]
  refine congrArg Scale.field (congrArg (· * _) (congrArg (fun f => Finset.univ.fold max _ f) (funext fun q => ?_)))
  rw [even_win H r q ⟨1280 + q.val, by omega⟩ rfl, odd_win H r q ⟨2560 + q.val, by omega⟩ rfl]
  exact congrArg (fun z => max _ (Spec.mag z)) (prev_win H r q ⟨q.val, by omega⟩ rfl)

/-- Every window's ratio is in the range on which the two statements of the scale agree. -/
def Small (X : Fin 3 → Fin 8192 → Fin 1280 → EReal) : Prop :=
  ∀ b r, 0 ≤ Spec.ratio X b r ∧ Spec.ratio X b r < (((2 : ℝ) ^ (126 : ℤ) : ℝ) : EReal)

/-- The block's inverse scales. -/
theorem inv_eq (hX : Small X) (H : Holds X b u x xs) (r : Fin 512) :
    (k0_pay8 (F := Ideal) (biasT x (carry x xs (r.val / 32)) (tripOf r)) (ix2 (sub r) 0) : EReal)
      = Scale.rinv (Spec.ratio X b (rowOf u r)) := by
  rw [pay8_apply, bias_field H]
  exact (Scale.scale_inv _ (hX _ _).1 (hX _ _).2).2

/-- The block's scales. -/
theorem scales_apply (hX : Small X) (H : Holds X b u x xs) (r : Fin 512) (l : Fin 128) :
    (scales x xs (ix2 r l) : EReal) = Scale.rscale (Spec.ratio X b (rowOf u r)) := by
  refine (pay9_apply _ (sub r) l).trans ?_
  refine (congrArg Scale.scaleOf (bias_field H r)).trans ?_
  exact (Scale.scale_inv _ (hX _ _).1 (hX _ _).2).1

/-- The block's codes. -/
theorem codes_apply (hX : Small X) (H : Holds X b u x xs) (r : Fin 512) (q : Fin 3840) :
    (codes x xs (ix2 r q) : EReal) = Spec.code X b (rowOf u r) q := by
  have hq := q.isLt
  unfold Spec.code
  by_cases h : q.val < 1280
  · refine (if_pos h).trans ((pay10_apply _ _ (sub r) _).trans ?_)
    exact congrArg₂ Spec.clip (prev_win H r _ q (by show q.val = q.val % 1280; omega)) (inv_eq hX H r)
  · by_cases h' : q.val < 2560
    · refine (if_neg h).trans ((if_pos h').trans ((pay16_apply _ _ (sub r) _).trans ?_))
      exact congrArg₂ Spec.clip (even_win H r _ q (by show q.val = 1280 + q.val % 1280; omega)) (inv_eq hX H r)
    · refine (if_neg h).trans ((if_neg h').trans ((pay18_apply _ _ (sub r) _).trans ?_))
      exact congrArg₂ Spec.clip (odd_win H r _ q (by show q.val = 2560 + q.val % 1280; omega)) (inv_eq hX H r)

/-- The same codes at the wider format. -/
theorem codesB_apply (hX : Small X) (H : Holds X b u x xs) (r : Fin 512) (q : Fin 3840) :
    (codesB x xs (ix2 r q) : EReal) = Spec.code X b (rowOf u r) q := by
  have hq := q.isLt
  unfold Spec.code
  by_cases h : q.val < 1280
  · refine (if_pos h).trans ((pay11_apply _ _ (sub r) _).trans ?_)
    exact congrArg₂ Spec.clip (prev_win H r _ q (by show q.val = q.val % 1280; omega)) (inv_eq hX H r)
  · by_cases h' : q.val < 2560
    · refine (if_neg h).trans ((if_pos h').trans ((pay17_apply _ _ (sub r) _).trans ?_))
      exact congrArg₂ Spec.clip (even_win H r _ q (by show q.val = 1280 + q.val % 1280; omega)) (inv_eq hX H r)
    · refine (if_neg h).trans ((if_neg h').trans ((pay19_apply _ _ (sub r) _).trans ?_))
      exact congrArg₂ Spec.clip (odd_win H r _ q (by show q.val = 2560 + q.val % 1280; omega)) (inv_eq hX H r)

/-! ## The pieces the two later stages read -/

/-- An entry of the codes of tap `j`. -/
theorem qcol_apply (q : Vec Ideal S512x3840 .bf16) (j : Fin 3) (r : Fin 512) (i : Fin 1280) (p : Fin 3840) (h : p.val = 1280 * j.val + i.val) :
    (qcol q j (ix2 r i) : EReal) = q (ix2 r p) := by
  refine View.ld_unit_apply_of (S := S512x3840) q _ _ (inbQ j) (ix2 r i) (ix2 r p) fun a => ?_
  match a with
  | 0 => exact (Nat.zero_add _).symm
  | 1 => exact h

/-- An entry of column block `n` of the weights of tap `j`. -/
theorem wrow_apply (w : Vec Ideal S3x3072x1280 .fp8e4m3) (j : Fin 3) (n : Fin 6) (a : Fin 512) (i : Fin 1280) (p : Fin 3072)
    (h : p.val = 512 * n.val + a.val) : (wrow w j n (ix3 0 a i) : EReal) = w (ix3 j p i) := by
  refine View.ld_unit_apply_of (S := S3x3072x1280) w _ _ (inbW j n) (ix3 0 a i) (ix3 j p i) fun a => ?_
  match a with
  | 0 => exact (Nat.add_zero _).symm
  | 1 => exact h
  | 2 => exact (Nat.zero_add _).symm

/-- An entry of column block `n` of a row vector. -/
theorem vcol_apply (v : Vec Ideal S1x3072 .f32) (n : Fin 6) (a : Fin 512) (p : Fin 3072) (h : p.val = 512 * n.val + a.val) :
    (vcol v n (ix2 0 a) : EReal) = v (ix2 0 p) := by
  refine View.ld_unit_apply_of (S := S1x3072) v _ _ (inbR n) (ix2 0 a) (ix2 0 p) fun a => ?_
  match a with
  | 0 => rfl
  | 1 => exact h

/-- The first column of the scales, entry by entry. -/
theorem scol_apply (s : Vec Ideal S512x128 .f32) (r : Fin 512) : (scol s (ix2 r 0) : EReal) = s (ix2 r 0) := by
  refine View.ld_unit_apply_of (S := S512x128) s _ _ inb_S512x128_S512x1_0_0 (ix2 r 0) (ix2 r 0) fun a => ?_
  match a with
  | 0 => exact (Nat.zero_add _).symm
  | 1 => rfl

/-- An entry of group `j` of the scales. -/
theorem srow_apply (s : Vec Ideal S512x128 .f32) (j : Fin 4) (a l : Fin 128) (r : Fin 512) (h : r.val = 128 * j.val + a.val) :
    (srow s j (ix2 a l) : EReal) = s (ix2 r l) := by
  refine View.ld_unit_apply_of (S := S512x128) s _ _ (inbS j) (ix2 a l) (ix2 r l) fun a => ?_
  match a with
  | 0 => exact h
  | 1 => exact (Nat.zero_add _).symm

/-- The sum that lays the scales of 128 rows along 128 lanes picks row `l` at lane `l`. -/
theorem pay21_apply (s : Vec Ideal S128x128 .f32) (l : Fin 128) : (k0_pay21 s (ix3 0 0 l) : EReal) = s (ix2 l l) := by
  rw [pay21_sum]
  refine (Finset.sum_eq_single l (fun x _ hx => ?_) (fun h => absurd (Finset.mem_univ l) h)).trans ?_
  · rw [select_counters _ _ (by have := x.isLt; omega) (by have := l.isLt; omega), if_neg (fun e => hx (Fin.ext e))]
  · rw [select_counters _ _ (by have := l.isLt; omega) (by have := l.isLt; omega), if_pos rfl]

/-- The block of scales. -/
theorem out6_apply (hX : Small X) (H : Holds X b u x xs) (k : Fin 4) (l : Fin 128) :
    (out6 x xs (ix3 0 k l) : EReal) = Scale.rscale (Spec.ratio X b (rowOf u ⟨128 * k.val + l.val, by omega⟩)) := by
  refine (pay21_apply _ l).trans ?_
  exact (srow_apply _ k l l ⟨128 * k.val + l.val, by omega⟩ rfl).trans (scales_apply hX H _ l)

/-- The block of results. -/
theorem out4_apply (hX : Small X) (H : Holds X b u x xs) (x1 : Vec Ideal S3x3072x1280 .fp8e4m3) (x2 x3 : Vec Ideal S1x3072 .f32)
    (r : Fin 512) (j : Fin 3072) :
    (out4 x x1 x2 x3 xs (ix2 r j) : EReal)
      = Spec.out X (fun j i k => x1 (ix3 k j i)) (fun j => x2 (ix2 0 j)) (fun j => x3 (ix2 0 j)) b (rowOf u r) j := by
  have hj : j.val = 512 * (j.val / 512) + j.val % 512 := by omega
  refine (pay31_apply _ _ _ _ _ _ _ _ _ r ⟨j.val % 512, by omega⟩).trans ?_
  unfold Spec.out
  rw [scol_apply, scales_apply hX H, vcol_apply x2 _ _ j hj, vcol_apply x3 _ _ j hj, ← sum_thirds]
  refine congrArg Spec.gelu (congrArg (· + _) (congrArg (· * _) (congrArg (· * _) (congrArg₂ (· + ·) (congrArg₂ (· + ·) ?_ ?_) ?_))))
  · refine Finset.sum_congr rfl fun i _ => ?_
    rw [qcol_apply _ 0 r i ⟨i.val, by omega⟩ (by show i.val = 1280 * 0 + i.val; omega), codesB_apply hX H, wrow_apply x1 0 _ _ i j hj]
    refine congrArg (_ * ·) (congrArg₂ (fun i k => x1 (ix3 k j i)) (Fin.ext ?_) (Fin.ext ?_))
    · show i.val = i.val % 1280; omega
    · show 0 = i.val / 1280; omega
  · refine Finset.sum_congr rfl fun i _ => ?_
    rw [qcol_apply _ 1 r i ⟨1280 + i.val, by omega⟩ (by show 1280 + i.val = 1280 * 1 + i.val; omega), codesB_apply hX H, wrow_apply x1 1 _ _ i j hj]
    refine congrArg (_ * ·) (congrArg₂ (fun i k => x1 (ix3 k j i)) (Fin.ext ?_) (Fin.ext ?_))
    · show i.val = (1280 + i.val) % 1280; omega
    · show 1 = (1280 + i.val) / 1280; omega
  · refine Finset.sum_congr rfl fun i _ => ?_
    rw [qcol_apply _ 2 r i ⟨2560 + i.val, by omega⟩ (by show 2560 + i.val = 1280 * 2 + i.val; omega), codesB_apply hX H, wrow_apply x1 2 _ _ i j hj]
    refine congrArg (_ * ·) (congrArg₂ (fun i k => x1 (ix3 k j i)) (Fin.ext ?_) (Fin.ext ?_))
    · show i.val = (2560 + i.val) % 1280; omega
    · show 2 = (2560 + i.val) / 1280; omega

end Cert.KernelIdeal.Hand

end
-- ==== Proof.KerOut.lean ====
/-
  What the kernel's three result arrays hold at the end: the specification, entry by entry.
-/
module

public import proofs.«01_k».proof.Proof.KerBlock

@[expose] public section

set_option maxRecDepth 16384

noncomputable section

namespace Cert.KernelIdeal.Hand

open Cert.KernelIdeal.Gen
open Cert.Spec (bat row scaleAt)
open Idealize.ShloMosaic Idealize.ShloMosaic.TcCoe Idealize.ShloMosaic.Tactic

/-- Which block of its array each operand and result is at a grid point. -/
theorem idx : ∀ t : Fin cfg0.N, win0_0.index t = ![t.val, 0] ∧ win0_1.index t = ![0, 0, 0] ∧ win0_2.index t = ![0, 0]
    ∧ win0_3.index t = ![0, 0] ∧ win0_4.index t = ![t.val, 0] ∧ win0_5.index t = ![t.val, 0] ∧ win0_6.index t = ![t.val, 0, 0] :=
  (by decide +kernel : ∀ t : Fin grid0.N, _)

variable (m : (ℓ : Loc nD τ sig) → Buf (Elt Ideal) ℓ) (c : Dev nD)

/-- The four arguments, by their entries. -/
abbrev X : Fin 3 → Fin 8192 → Fin 1280 → EReal := fun b s q => (m ((c : Thread nD τ).loc main_arg0) : FVec Ideal S3x8192x1280 .bf16) (ix3 b s q)
abbrev W : Fin 3072 → Fin 1280 → Fin 3 → EReal := fun j i k => (m ((c : Thread nD τ).loc main_arg1) : FVec Ideal S3072x1280x3 .fp8e4m3) (ix3 j i k)
abbrev s2 : Fin 3072 → EReal := fun j => (m ((c : Thread nD τ).loc main_arg2) : FVec Ideal S3072 .f32) (ix1 j)
abbrev s3 : Fin 3072 → EReal := fun j => (m ((c : Thread nD τ).loc main_arg3) : FVec Ideal S3072 .f32) (ix1 j)

/-- The kernel is handed the weights transposed, taps first. -/
theorem V_v0 : V m c main_v0 = transpose S3x3072x1280 [2, 0, 1] (m ((c : Thread nD τ).loc main_arg1) : FVec Ideal S3072x1280x3 .fp8e4m3) transposes_S3072x1280x3_S3x3072x1280_2_0_1 := by
  entry_read
  rfl
/-- The kernel is handed the frames of all batches as one array of rows. -/
theorem V_v1 : V m c main_v1 = shapeCast S24576x1280 (m ((c : Thread nD τ).loc main_arg0) : FVec Ideal S3x8192x1280 .bf16) shapeCasts_S3x8192x1280_S24576x1280 := by
  entry_read
  rfl
/-- The kernel is handed the weights' scales as one row. -/
theorem V_v2 : V m c main_v2 = shapeCast S1x3072 (m ((c : Thread nD τ).loc main_arg2) : FVec Ideal S3072 .f32) shapeCasts_S3072_S1x3072 := by
  entry_read
  rfl
/-- The kernel is handed the bias as one row. -/
theorem V_v3 : V m c main_v3 = shapeCast S1x3072 (m ((c : Thread nD τ).loc main_arg3) : FVec Ideal S3072 .f32) shapeCasts_S3072_S1x3072 := by
  entry_read
  rfl

/-- The transposed weights, entry by entry. -/
theorem v0_apply (k : Fin 3) (j : Fin 3072) (i : Fin 1280) : (V m c main_v0 : FVec Ideal S3x3072x1280 .fp8e4m3) (ix3 k j i) = W m c j i k := by
  rw [V_v0]
  pointwise
/-- A flat row is a row of a batch. -/
theorem flat_apply (a : FVec Ideal S3x8192x1280 .bf16) (s : Fin 24576) (q : Fin 1280) :
    shapeCast S24576x1280 a shapeCasts_S3x8192x1280_S24576x1280 (ix2 s q) = a (ix3 ⟨s.val / 8192, by omega⟩ ⟨s.val % 8192, by omega⟩ q) := by
  pointwise
/-- The frames as rows, entry by entry. -/
theorem v1_apply (s : Fin 24576) (q : Fin 1280) : (V m c main_v1 : FVec Ideal S24576x1280 .bf16) (ix2 s q) = X m c ⟨s.val / 8192, by omega⟩ ⟨s.val % 8192, by omega⟩ q := by
  rw [V_v1]
  exact flat_apply _ s q
/-- The weights' scales as a row, entry by entry. -/
theorem v2_apply (j : Fin 3072) : (V m c main_v2 : FVec Ideal S1x3072 .f32) (ix2 0 j) = s2 m c j := by
  rw [V_v2]
  pointwise
/-- The bias as a row, entry by entry. -/
theorem v3_apply (j : Fin 3072) : (V m c main_v3 : FVec Ideal S1x3072 .f32) (ix2 0 j) = s3 m c j := by
  rw [V_v3]
  pointwise

/-- Block `t` of the frames begins at row `1024 t`. -/
theorem ib0 (t : Fin cfg0.N) (s : Fin 1024) (q : Fin 1280) (z : Fin 24576) (hz : z.val = 1024 * t.val + s.val) :
    (iblk m c 0 t : Vec Ideal S1024x1280 .bf16) (ix2 s q) = V m c main_v1 (ix2 z q) := by
  blk_ext [iblk, idx t]
/-- Every block of the weights is all of them. -/
theorem ib1 (t : Fin cfg0.N) (k : Fin 3) (j : Fin 3072) (i : Fin 1280) : (iblk m c 1 t : Vec Ideal S3x3072x1280 .fp8e4m3) (ix3 k j i) = V m c main_v0 (ix3 k j i) := by
  blk_ext [iblk, idx t]
/-- Every block of the weights' scales is all of them. -/
theorem ib2 (t : Fin cfg0.N) (j : Fin 3072) : (iblk m c 2 t : Vec Ideal S1x3072 .f32) (ix2 0 j) = V m c main_v2 (ix2 0 j) := by
  blk_ext [iblk, idx t]
/-- Every block of the bias is all of it. -/
theorem ib3 (t : Fin cfg0.N) (j : Fin 3072) : (iblk m c 3 t : Vec Ideal S1x3072 .f32) (ix2 0 j) = V m c main_v3 (ix2 0 j) := by
  blk_ext [iblk, idx t]

/-- The batch a block lies in, and which of the batch's eight blocks it is. -/
abbrev batOf (t : Fin cfg0.N) : Fin 3 := ⟨t.val / 8, by have : t.val < 24 := t.isLt; omega⟩
abbrev blkOf (t : Fin cfg0.N) : Fin 8 := ⟨t.val % 8, by omega⟩

/-- The input block of a grid point is 1024 rows of its batch. -/
theorem rows_apply (t : Fin cfg0.N) (s : Fin 1024) (q : Fin 1280) :
    ((iblk m c 0 t : Vec Ideal S1024x1280 .bf16) (ix2 s q) : EReal) = X m c (batOf t) ⟨1024 * (t.val % 8) + s.val, by omega⟩ q := by
  have ht : t.val < 24 := t.isLt
  rw [ib0 m c t s q ⟨1024 * t.val + s.val, by omega⟩ rfl, v1_apply]
  exact congrArg₂ (fun b s => X m c b s q) (Fin.ext (by show (1024 * t.val + s.val) / 8192 = t.val / 8; omega))
    (Fin.ext (by show (1024 * t.val + s.val) % 8192 = 1024 * (t.val % 8) + s.val; omega))

/-- A grid point starts from the row before its block, or zero where a batch starts. -/
theorem holds (t : Fin cfg0.N) : Holds (X m c) (batOf t) (blkOf t) (iblk m c 0 t) (xsAt m c t) where
  rows := rows_apply m c t
  first q := by
    have ht : t.val < 24 := t.isLt
    unfold xsAt
    by_cases h : t.val % 8 = 0
    · rw [if_pos h, pay14_apply]
      rw [dif_pos (show (blkOf t).val = 0 from h)]
    · rw [if_neg h]
      refine Eq.trans ?_ (dif_neg (show ¬ (blkOf t).val = 0 from h)).symm
      unfold carryAt lastOdd
      refine (pay5_apply _ 0 q).trans ?_
      refine (raw_apply _ _ 63 q 1023 rfl).trans ?_
      refine (rows_apply m c _ 1023 q).trans ?_
      exact congrArg₂ (fun b s => X m c b s q) (Fin.ext (by show (t.val - 1) % 24 / 8 = t.val / 8; omega))
        (Fin.ext (by show 1024 * ((t.val - 1) % 24 % 8) + 1023 = 1024 * (t.val % 8) - 1; omega))

/-- Where an element of a result's block lies in the result. -/
theorem emb5 (t : Fin cfg0.N) (r : Fin 512) (q : Fin 3840) :
    ((win0_5.blk t).view.emb (ix2 r q : S512x3840.Idx) : S12288x3840.Idx) = ix2 ⟨512 * t.val + r.val, by have : t.val < 24 := t.isLt; omega⟩ q := by
  funext a; apply Fin.ext
  refine (Pipeline.Window.rect_emb_val win0_5 t (ix2 r q) a).trans ?_
  rw [(idx t).2.2.2.2.2.1]
  match a with
  | 0 => show t.val * 512 + r.val = 512 * t.val + r.val; omega
  | 1 => show 0 * 3840 + q.val = q.val; omega

/-- Block `t` of the first result lies at rows `512 t` and on. -/
theorem emb4 (t : Fin cfg0.N) (r : Fin 512) (j : Fin 3072) :
    ((win0_4.blk t).view.emb (ix2 r j : S512x3072.Idx) : S12288x3072.Idx) = ix2 ⟨512 * t.val + r.val, by have : t.val < 24 := t.isLt; omega⟩ j := by
  funext a; apply Fin.ext
  refine (Pipeline.Window.rect_emb_val win0_4 t (ix2 r j) a).trans ?_
  rw [(idx t).2.2.2.2.1]
  match a with
  | 0 => show t.val * 512 + r.val = 512 * t.val + r.val; omega
  | 1 => show 0 * 3072 + j.val = j.val; omega

/-- Block `t` of the third result is its entry `t`. -/
theorem emb6 (t : Fin cfg0.N) (k : Fin 4) (l : Fin 128) :
    ((win0_6.blk t).view.emb (ix3 0 k l : S1x4x128.Idx) : S24x4x128.Idx) = ix3 ⟨t.val, t.isLt⟩ k l := by
  funext a; apply Fin.ext
  refine (Pipeline.Window.rect_emb_val win0_6 t (ix3 0 k l) a).trans ?_
  rw [(idx t).2.2.2.2.2.2]
  match a with
  | 0 => show t.val * 1 + 0 = t.val; omega
  | 1 => show 0 * 4 + k.val = k.val; omega
  | 2 => show 0 * 128 + l.val = l.val; omega

/-- Row `r` of block `t` lies in the batch of that block. -/
theorem bat_eq (t : Fin cfg0.N) (r : Fin 512) (h : 512 * t.val + r.val < 12288) : bat ⟨512 * t.val + r.val, h⟩ = batOf t :=
  Fin.ext (by show (512 * t.val + r.val) / 4096 = t.val / 8; omega)
/-- Row `r` of block `t` is this row of its batch. -/
theorem row_eq (t : Fin cfg0.N) (r : Fin 512) (h : 512 * t.val + r.val < 12288) : row ⟨512 * t.val + r.val, h⟩ = rowOf (blkOf t) r :=
  Fin.ext (by show (512 * t.val + r.val) % 4096 = 512 * (t.val % 8) + r.val; omega)

/-- The second result holds the codes. -/
theorem arr5 (hX : Small (X m c)) : (dats m 0 c).arrAt 5 cfg0.N = fun y => Spec.code (X m c) (bat (y 0)) (row (y 0)) (y 1) := by
  refine Pipeline.Dat.arrAt_eq_of_covers (dat := dats m 0 c) 5 _ (by decide +kernel) fun t _ y => ?_
  blk_simp
  rw [after0_5]
  obtain ⟨r, q, rfl⟩ : ∃ (r : Fin 512) (q : Fin 3840), y = ix2 r q := ⟨y 0, y 1, eq_ix2 y⟩
  refine (codes_apply hX (holds m c t) r q).trans ?_
  rw [← bat_eq t r (by have : t.val < 24 := t.isLt; omega), ← row_eq t r (by have : t.val < 24 := t.isLt; omega)]
  exact (congrArg (fun z : S12288x3840.Idx => Spec.code (X m c) (bat (z 0)) (row (z 0)) (z 1)) (emb5 t r q)).symm

/-- The first result holds the activated products. -/
theorem arr4 (hX : Small (X m c)) : (dats m 0 c).arrAt 4 cfg0.N = fun y => Spec.out (X m c) (W m c) (s2 m c) (s3 m c) (bat (y 0)) (row (y 0)) (y 1) := by
  refine Pipeline.Dat.arrAt_eq_of_covers (dat := dats m 0 c) 4 _ (by decide +kernel) fun t _ y => ?_
  blk_simp
  rw [after0_4]
  obtain ⟨r, j, rfl⟩ : ∃ (r : Fin 512) (j : Fin 3072), y = ix2 r j := ⟨y 0, y 1, eq_ix2 y⟩
  refine (out4_apply hX (holds m c t) _ _ _ r j).trans ?_
  have eW : (fun j i k => ((iblk m c 1 t : Vec Ideal S3x3072x1280 .fp8e4m3) (ix3 k j i) : EReal)) = W m c :=
    funext fun j => funext fun i => funext fun k => (ib1 m c t k j i).trans (v0_apply m c k j i)
  have e2 : (fun j => ((iblk m c 2 t : Vec Ideal S1x3072 .f32) (ix2 0 j) : EReal)) = s2 m c :=
    funext fun j => (ib2 m c t j).trans (v2_apply m c j)
  have e3 : (fun j => ((iblk m c 3 t : Vec Ideal S1x3072 .f32) (ix2 0 j) : EReal)) = s3 m c :=
    funext fun j => (ib3 m c t j).trans (v3_apply m c j)
  rw [eW, e2, e3, ← bat_eq t r (by have : t.val < 24 := t.isLt; omega), ← row_eq t r (by have : t.val < 24 := t.isLt; omega)]
  exact (congrArg (fun z : S12288x3072.Idx => Spec.out (X m c) (W m c) (s2 m c) (s3 m c) (bat (z 0)) (row (z 0)) (z 1)) (emb4 t r j)).symm

/-- The third result holds the scales. -/
theorem arr6 (hX : Small (X m c)) : (dats m 0 c).arrAt 6 cfg0.N = fun y => scaleAt (X m c) (y 0) (y 1) (y 2) := by
  refine Pipeline.Dat.arrAt_eq_of_covers (dat := dats m 0 c) 6 _ (by decide +kernel) fun t _ y => ?_
  blk_simp
  rw [after0_6]
  obtain ⟨z, k, l, rfl⟩ : ∃ (z : Fin 1) (k : Fin 4) (l : Fin 128), y = ix3 z k l := ⟨y 0, y 1, y 2, eq_ix3 y⟩
  obtain rfl : z = 0 := Subsingleton.elim _ _
  have ht : t.val < 24 := t.isLt
  refine (out6_apply hX (holds m c t) k l).trans ?_
  refine Eq.trans ?_ (congrArg (fun z : S24x4x128.Idx => scaleAt (X m c) (z 0) (z 1) (z 2)) (emb6 t k l)).symm
  rw [← bat_eq t ⟨128 * k.val + l.val, by omega⟩ (by dsimp only; omega), ← row_eq t ⟨128 * k.val + l.val, by omega⟩ (by dsimp only; omega)]
  show _ = scaleAt (X m c) ⟨t.val, t.isLt⟩ k l
  unfold scaleAt
  refine congrArg Scale.rscale (congrArg₂ (Spec.ratio (X m c)) (congrArg bat (Fin.ext ?_)) (congrArg row (Fin.ext ?_)))
  all_goals show 512 * t.val + (128 * k.val + l.val) = 512 * t.val + 128 * k.val + l.val; omega

end Cert.KernelIdeal.Hand

end
-- ==== Proof.KerRun.lean ====
/-
  The kernel's run at the extended reals: it ends with the specification in its three results.
-/
module

public import proofs.«01_k».proof.Proof.KerOut

@[expose] public section

set_option maxRecDepth 16384

noncomputable section

namespace Cert.KernelIdeal.Hand

open Cert.KernelIdeal.Gen
open Cert.Spec (bat row scaleAt)
open Idealize.ShloMosaic Idealize.ShloMosaic.TcCoe Idealize.ShloMosaic.Tactic Idealize.SL.Sem

variable (m : (ℓ : Loc nD τ sig) → Buf (Elt Ideal) ℓ) (ρ : Dev nD → PrngReg)

/-- Each result holds the specification and the arguments end unchanged. -/
theorem run_spec (hX : ∀ c, Small (X m c)) :
    θ_run (defs (F := Ideal)) (onTc (τ := τ) (main (F := Ideal))) ⟨m, fun _ => 0, ρ⟩ (fun r => ∀ c : Dev nD,
      r.2.mem ((c.tc : Thread nD τ).loc main_v4_0) = (fun y => Spec.out (X m c) (W m c) (s2 m c) (s3 m c) (bat (y 0)) (row (y 0)) (y 1))
      ∧ r.2.mem ((c.tc : Thread nD τ).loc main_v4_1) = (fun y => Spec.code (X m c) (bat (y 0)) (row (y 0)) (y 1))
      ∧ r.2.mem ((c.tc : Thread nD τ).loc main_v4_2) = (fun y => scaleAt (X m c) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ?_) (θ_run_and (unchanged m ρ) (run_main m ρ))
  exact ⟨(h.2.out_eq c 4).trans (arr4 m c (hX c)), (h.2.out_eq c 5).trans (arr5 m c (hX c)), (h.2.out_eq c 6).trans (arr6 m c (hX c)), h.1 c⟩

end Cert.KernelIdeal.Hand

end
-- ==== Proof.RefHost.lean ====
/-
  What the reference's host lines compute before its kernel: the rows of three taps, the scale and inverse scale of each
  row, and the weights with the taps as rows.
-/
module

public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal.Gen
open Idealize.ShloMosaic Idealize.ShloMosaic.TcCoe Idealize.ShloMosaic.Tactic

/-- Two neighbouring rows side by side. -/
def pairs (a : FVec Ideal S3x8192x1280 .bf16) : FVec Ideal S3x4096x2560 .bf16 :=
  shapeCast S3x4096x2560 a shapeCasts_S3x8192x1280_S3x4096x2560

/-- One row of the given word, as a number, put before the rows. -/
def padded (u : FVec Ideal S3x4095x1280 .bf16) (z : IVec S_ 32) : FVec Ideal S3x4096x1280 .bf16 :=
  pad S3x4096x1280 ![0, 1, 0] ![0, 0, 0] ![0, 0, 0] u (sitofp .bf16 z) pads_S3x4095x1280_S3x4096x1280_000_100_000 h_S_

/-- The odd rows of all pairs but the last. -/
def odds (v : FVec Ideal S3x4096x2560 .bf16) : FVec Ideal S3x4095x1280 .bf16 :=
  extractStridedSlice S3x4095x1280 ![0, 0, 0]
    (extractStridedSlice S3x4096x1280 ![0, 0, 1280] v slices_S3x4096x2560_S3x4096x1280_0_0_1280)
    slices_S3x4096x1280_S3x4095x1280_0_0_0

/-- The three taps of each row, side by side. -/
def joined (u : FVec Ideal S3x4096x1280 .bf16) (v : FVec Ideal S3x4096x2560 .bf16) : FVec Ideal S3x4096x3840 .f32 :=
  extf .f32 (concatenate S3x4096x3840 2 [⟨S3x4096x1280, u⟩, ⟨S3x4096x2560, v⟩]
    concatenates_S3x4096x1280_S3x4096x2560_S3x4096x3840_d2) bitsLt_bf16_f32

/-- The greatest magnitude of each row over 448. -/
def ratiosOf (x : FVec Ideal S3x4096x3840 .f32) : FVec Ideal S3x4096 .f32 :=
  mulf (Host.reduce FloatOps.maximumf (Host.absf x) (constant S_ .f32 0xFF800000#32) reducesTo_S3x4096x3840_S3x4096_d2 h_S_)
    (broadcastInDim S3x4096 ![] bcast_S_S3x4096 (constant S_ .f32 0x3B124925#32))

/-- Which ratios lie below the least normal number. -/
def tinyOf (r : FVec Ideal S3x4096 .f32) : IVec S3x4096 1 :=
  cmpf .olt r (broadcastInDim S3x4096 ![] bcast_S_S3x4096 (constant S_ .f32 0x00800000#32))

/-- One more than the floor of the base-two logarithm of each ratio. -/
def logsOf (r : FVec Ideal S3x4096 .f32) : FVec Ideal S3x4096 .f32 :=
  addf (Host.floor (Host.divf (Host.log r) (broadcastInDim S3x4096 ![] bcast_S_S3x4096
      (Host.log (constant S_ .f32 0x40000000#32)))))
    (broadcastInDim S3x4096 ![] bcast_S_S3x4096 (constant S_ .f32 0x3F800000#32))

/-- The exponent of each row's scale. -/
def expsOf (r : FVec Ideal S3x4096 .f32) : FVec Ideal S3x4096 .f32 :=
  select (tinyOf r) (broadcastInDim S3x4096 ![] bcast_S_S3x4096 (constant S_ .f32 0x00000000#32)) (logsOf r)

/-- Two to each exponent. -/
def scalesOf (e : FVec Ideal S3x4096 .f32) : FVec Ideal S3x4096 .f32 :=
  Host.powf (broadcastInDim S3x4096 ![] bcast_S_S3x4096 (constant S_ .f32 0x40000000#32)) e

/-- Two to each exponent's opposite. -/
def invsOf (e : FVec Ideal S3x4096 .f32) : FVec Ideal S3x4096 .f32 :=
  Host.powf (broadcastInDim S3x4096 ![] bcast_S_S3x4096 (constant S_ .f32 0x40000000#32)) (Host.negf e)

section Stretches

variable (σ : Valuation τ sig (Elt Ideal))

/-- The last stretch forms the third result: the scales in blocks. -/
theorem s4_v28 : StableHlo.after (hostOps0_4 (F := Ideal)) σ (Proc.devRef .tc main_v28)
    = shapeCast S24x4x128 (scalesOf (σ (Proc.devRef .tc main_v20))) shapeCasts_S3x4096_S24x4x128 := by
  after_results
  rfl
/-- The last stretch forms the column of scales. -/
theorem s4_v31 : StableHlo.after (hostOps0_4 (F := Ideal)) σ (Proc.devRef .tc main_v31)
    = shapeCast S12288x1 (scalesOf (σ (Proc.devRef .tc main_v20))) shapeCasts_S3x4096_S12288x1 := by
  after_results
  rfl
/-- The last stretch forms the column of inverse scales. -/
theorem s4_v30 : StableHlo.after (hostOps0_4 (F := Ideal)) σ (Proc.devRef .tc main_v30)
    = shapeCast S12288x1 (invsOf (σ (Proc.devRef .tc main_v20))) shapeCasts_S3x4096_S12288x1 := by
  after_results
  rfl
/-- The last stretch forms the windows as rows. -/
theorem s4_v29 : StableHlo.after (hostOps0_4 (F := Ideal)) σ (Proc.devRef .tc main_v29)
    = shapeCast S12288x3840 (σ (Proc.devRef .tc main_v5)) shapeCasts_S3x4096x3840_S12288x3840 := by
  after_results
  rfl
/-- The stretch of the selection forms the exponents. -/
theorem s3_v20 : StableHlo.after (hostOps0_3 (F := Ideal)) σ (Proc.devRef .tc main_v20)
    = select (σ (Proc.devRef .tc main_v19))
      (broadcastInDim S3x4096 ![] bcast_S_S3x4096 (σ (Proc.devRef .tc main_cst_4) : FVec Ideal S_ .f32))
      (σ (Proc.devRef .tc main_v17) : FVec Ideal S3x4096 .f32) := by
  after_results
  rfl
/-- The stretch of the selection leaves the windows alone. -/
theorem s3_v5 : StableHlo.after (hostOps0_3 (F := Ideal)) σ (Proc.devRef .tc main_v5) = σ (Proc.devRef .tc main_v5) := by
  after_results
/-- The third stretch forms the windows. -/
theorem s2_v5 : StableHlo.after (hostOps0_2 (F := Ideal)) σ (Proc.devRef .tc main_v5)
    = joined (σ (Proc.devRef .tc main_v3)) (σ (Proc.devRef .tc main_v0)) := by
  after_results
  rfl
/-- The third stretch tells which ratios are below the least normal float. -/
theorem s2_v19 : StableHlo.after (hostOps0_2 (F := Ideal)) σ (Proc.devRef .tc main_v19)
    = tinyOf (ratiosOf (joined (σ (Proc.devRef .tc main_v3)) (σ (Proc.devRef .tc main_v0)))) := by
  after_results
  unfold tinyOf ratiosOf joined
  rfl
/-- The third stretch forms the exponents before the selection. -/
theorem s2_v17 : StableHlo.after (hostOps0_2 (F := Ideal)) σ (Proc.devRef .tc main_v17)
    = logsOf (ratiosOf (joined (σ (Proc.devRef .tc main_v3)) (σ (Proc.devRef .tc main_v0)))) := by
  after_results
  unfold logsOf ratiosOf joined
  rfl
/-- The third stretch forms the zero that the selection takes. -/
theorem s2_cst_4 : StableHlo.after (hostOps0_2 (F := Ideal)) σ (Proc.devRef .tc main_cst_4) = constant (F := Ideal) S_ .f32 0x00000000#32 := by
  after_results
/-- The stretch of the padding leaves the pairs of frames alone. -/
theorem s1_v0 : StableHlo.after (hostOps0_1 (F := Ideal)) σ (Proc.devRef .tc main_v0) = σ (Proc.devRef .tc main_v0) := by
  after_results
/-- The stretch of the padding forms the previous odd frames. -/
theorem s1_v3 : StableHlo.after (hostOps0_1 (F := Ideal)) σ (Proc.devRef .tc main_v3)
    = padded (σ (Proc.devRef .tc main_v2)) (σ (Proc.devRef .tc main_c)) := by
  after_results
  rfl
/-- The first stretch forms the pairs of frames. -/
theorem s0_v0 : StableHlo.after (hostOps0 (F := Ideal)) σ (Proc.devRef .tc main_v0) = pairs (σ (Proc.devRef .tc main_arg0)) := by
  after_results
  rfl
/-- The first stretch cuts out the odd frames but the last. -/
theorem s0_v2 : StableHlo.after (hostOps0 (F := Ideal)) σ (Proc.devRef .tc main_v2)
    = odds (pairs (σ (Proc.devRef .tc main_arg0))) := by
  after_results
  rfl
/-- The first stretch forms the zero that the padding takes. -/
theorem s0_c : StableHlo.after (hostOps0 (F := Ideal)) σ (Proc.devRef .tc main_c) = constantI S_ 32 0#32 := by
  after_results

end Stretches

/-- The rows of three taps, from the launch argument. -/
def rows (a : FVec Ideal S3x8192x1280 .bf16) : FVec Ideal S3x4096x3840 .f32 :=
  joined (padded (odds (pairs a)) (constantI S_ 32 0#32)) (pairs a)

/-- The exponents of the rows, from the launch argument. -/
def exps (a : FVec Ideal S3x8192x1280 .bf16) : FVec Ideal S3x4096 .f32 := expsOf (ratiosOf (rows a))

variable (m : (ℓ : Loc nD τ sig) → Buf (Elt Ideal) ℓ) (c : Dev nD)

/-- The five stretches of the host line, one after another. -/
theorem V_eq (b : Ref sig .tc) : V m c b
    = StableHlo.after hostOps0_4 (StableHlo.after hostOps0_3 (StableHlo.after hostOps0_2 (StableHlo.after hostOps0_1
        (StableHlo.after hostOps0 fun b => m (c, b))))) (Proc.devRef .tc b) := by
  show StableHlo.after [hostOps0, hostOps0_1, hostOps0_2, hostOps0_3, hostOps0_4].flatten _ _ = _
  simp only [List.flatten_cons, List.flatten_nil, StableHlo.after_append, List.append_nil]

/-- The region is handed the windows as rows. -/
theorem V_v29 : V m c main_v29
    = shapeCast S12288x3840 (rows (m ((c : Thread nD τ).loc main_arg0))) shapeCasts_S3x4096x3840_S12288x3840 := by
  rw [V_eq, s4_v29, s3_v5, s2_v5, s1_v3, s1_v0, s0_v0, s0_v2, s0_c]
  rfl

/-- After four stretches the exponents are those of the windows. -/
theorem at3_v20 : StableHlo.after hostOps0_3 (StableHlo.after hostOps0_2 (StableHlo.after hostOps0_1
        (StableHlo.after hostOps0 fun b => m (c, b)))) (Proc.devRef .tc main_v20)
    = exps (m ((c : Thread nD τ).loc main_arg0)) := by
  rw [s3_v20, s2_v19, s2_v17, s2_cst_4, s1_v3, s1_v0, s0_v0, s0_v2, s0_c]
  rfl

/-- The third result, as an expression in the frames. -/
theorem V_v28 : V m c main_v28
    = shapeCast S24x4x128 (scalesOf (exps (m ((c : Thread nD τ).loc main_arg0)))) shapeCasts_S3x4096_S24x4x128 := by
  rw [V_eq, s4_v28, at3_v20]

/-- The region is handed the column of scales. -/
theorem V_v31 : V m c main_v31
    = shapeCast S12288x1 (scalesOf (exps (m ((c : Thread nD τ).loc main_arg0)))) shapeCasts_S3x4096_S12288x1 := by
  rw [V_eq, s4_v31, at3_v20]

/-- The region is handed the column of inverse scales. -/
theorem V_v30 : V m c main_v30
    = shapeCast S12288x1 (invsOf (exps (m ((c : Thread nD τ).loc main_arg0)))) shapeCasts_S3x4096_S12288x1 := by
  rw [V_eq, s4_v30, at3_v20]

/-- The region is handed the weights as one matrix. -/
theorem V_v27 : V m c main_v27
    = shapeCast S3840x3072 (transpose S3x1280x3072 [2, 1, 0] (m ((c : Thread nD τ).loc main_arg1))
        transposes_S3072x1280x3_S3x1280x3072_2_1_0) shapeCasts_S3x1280x3072_S3840x3072 := by
  rw [V_eq]
  after_results
  rfl

/-- The region is handed the weights' scales as one row. -/
theorem V_v32 : V m c main_v32 = shapeCast S1x3072 (m ((c : Thread nD τ).loc main_arg2)) shapeCasts_S3072_S1x3072 := by
  rw [V_eq]
  after_results
  rfl

/-- The region is handed the bias as one row. -/
theorem V_v33 : V m c main_v33 = shapeCast S1x3072 (m ((c : Thread nD τ).loc main_arg3)) shapeCasts_S3072_S1x3072 := by
  rw [V_eq]
  after_results
  rfl

end Cert.ReferenceIdeal.Hand
-- ==== Proof.RefValue.lean ====
/-
  What the reference's three results hold, entry by entry: the specification.
-/
module

public import proofs.«01_k».proof.Proof.RefHost
public import proofs.«01_k».proof.Proof.Spec

@[expose] public section

set_option maxRecDepth 16384

noncomputable section

namespace Cert.ReferenceIdeal.Hand

open Cert.ReferenceIdeal.Gen
open Idealize.ShloMosaic Idealize.ShloMosaic.TcCoe Idealize.ShloMosaic.Tactic

/-- The host's greatest entry along the last of three axes. -/
theorem reduceMax {A B C : ℕ} (x : FVec Ideal ⟨3, ![A, B, C]⟩ .f32) (w : BitVec 32)
    (h' : (⟨3, ![A, B, C]⟩ : Shape).ReducesTo [2] ⟨2, ![A, B]⟩) (hu : 0 < (⟨0, ![]⟩ : Shape).numel) (b : Fin A) (r : Fin B) :
    Host.reduce FloatOps.maximumf x (constant (⟨0, ![]⟩ : Shape) .f32 w) h' hu (ix2 b r)
      = Finset.univ.fold max (Ideal.ofBits .f32 w) (fun q : Fin C => x (ix3 b r q)) := by
  have h : (⟨3, ![A, B, C]⟩ : Shape).Reduces [2] ⟨2, ![A, B]⟩ := ⟨h'.1, Nat.succ_pos _, h'.2⟩
  rw [Host.reduce_eq_fold_single FloatOps.maximumf x _ h' h hu]
  have hf : (x ∘ h.lift (ix2 b r)) = fun q : Fin C => x (ix3 b r q) := by
    funext q
    refine congrArg x ?_
    funext d; apply Fin.ext
    fin_cases d <;> rfl
  exact congrArg (fun f => Finset.fold max (Ideal.ofBits .f32 w) f (Finset.univ : Finset (Fin C))) hf

/-- A window, entry by entry: the previous odd frame, the even frame, the odd frame. -/
theorem rows_apply (a : FVec Ideal S3x8192x1280 .bf16) (b : Fin 3) (r : Fin 4096) (q : Fin 3840) :
    rows a (ix3 b r q) = Spec.win (fun b s q => a (ix3 b s q)) b r q := by
  unfold Spec.win
  pointwise [rows, joined, padded, odds, pairs]
  by_cases h : q.val < 1280
  · refine (dif_pos h).trans (Eq.trans ?_ (dif_pos h).symm)
    by_cases h' : 1 ≤ r.val
    · refine (dif_pos ⟨⟨h', by omega⟩, h⟩).trans (Eq.trans ?_ (if_pos h').symm)
      exact congrArg₂ (fun s q => a (ix3 b s q)) (Fin.ext (by dsimp only; omega)) (Fin.ext (by dsimp only; omega))
    · refine (dif_neg (fun c => h' c.1.1)).trans (Eq.trans ?_ (if_neg h').symm)
      show ((((0#32 : BitVec 32).toInt : ℤ) : ℝ) : EReal) = 0
      simp
  · refine (dif_neg h).trans (Eq.trans ?_ (dif_neg h).symm)
    by_cases h' : q.val < 2560
    · refine Eq.trans ?_ (dif_pos h').symm
      exact congrArg₂ (fun s q => a (ix3 b s q)) (Fin.ext (by dsimp only; omega)) (Fin.ext (by dsimp only; omega))
    · refine Eq.trans ?_ (dif_neg h').symm
      exact congrArg₂ (fun s q => a (ix3 b s q)) (Fin.ext (by dsimp only; omega)) (Fin.ext (by dsimp only; omega))

/-- The ratio of a window: its largest magnitude over 448. -/
theorem ratiosOf_apply (x : FVec Ideal S3x4096x3840 .f32) (b : Fin 3) (r : Fin 4096) :
    ratiosOf x (ix2 b r) = Finset.univ.fold max (Ideal.ofBits .f32 0xFF800000#32) (fun q => Spec.mag (x (ix3 b r q)))
      * Ideal.ofBits .f32 0x3B124925#32 := by
  have k (A : FVec Ideal S3x4096 .f32) :
      mulf A (broadcastInDim S3x4096 ![] bcast_S_S3x4096 (constant S_ .f32 0x3B124925#32)) (ix2 b r)
        = A (ix2 b r) * Ideal.ofBits .f32 0x3B124925#32 := by
    pointwise
  exact (k _).trans (congrArg (· * Ideal.ofBits .f32 0x3B124925#32) (reduceMax (Host.absf x) 0xFF800000#32 _ _ b r))

/-- The exponent of a ratio. -/
theorem expsOf_apply (x : FVec Ideal S3x4096 .f32) (b : Fin 3) (r : Fin 4096) :
    expsOf x (ix2 b r) = Scale.rexp (x (ix2 b r)) := by
  unfold Scale.rexp
  pointwise [expsOf, tinyOf, logsOf]

/-- The scale of an exponent: its power of two. -/
theorem scalesOf_apply (x : FVec Ideal S3x4096 .f32) (b : Fin 3) (r : Fin 4096) :
    scalesOf x (ix2 b r) = Ideal.pow (Ideal.ofBits .f32 0x40000000#32) (x (ix2 b r)) := by
  pointwise [scalesOf]

/-- The inverse scale of an exponent: the power of two of its negative. -/
theorem invsOf_apply (x : FVec Ideal S3x4096 .f32) (b : Fin 3) (r : Fin 4096) :
    invsOf x (ix2 b r) = Ideal.pow (Ideal.ofBits .f32 0x40000000#32) (-x (ix2 b r)) := by
  pointwise [invsOf]

/-- The exponent of a window of the frames. -/
theorem exps_apply (a : FVec Ideal S3x8192x1280 .bf16) (b : Fin 3) (r : Fin 4096) :
    exps a (ix2 b r) = Scale.rexp (Spec.ratio (fun b s q => a (ix3 b s q)) b r) := by
  rw [exps, expsOf_apply, ratiosOf_apply, Spec.ratio]
  simp only [rows_apply]

end Cert.ReferenceIdeal.Hand
-- ==== Proof.RefOut.lean ====
/-
  What the reference's arrays hold at the end: the specification, entry by entry.
-/
module

public import proofs.«01_k».proof.Proof.RefValue

@[expose] public section

set_option maxRecDepth 16384

noncomputable section

namespace Cert.ReferenceIdeal.Hand

open Cert.ReferenceIdeal.Gen
open Cert.Spec (bat row scaleAt)
open Idealize.ShloMosaic Idealize.ShloMosaic.TcCoe Idealize.ShloMosaic.Tactic

/-- The codes that the region stores, entry by entry. -/
theorem pay1_apply (x0 : Vec Ideal S12288x3840 .f32) (x1 : Vec Ideal S12288x1 .f32) (r : Fin 12288) (q : Fin 3840) :
    k0_pay1 x0 x1 (ix2 r q) = Spec.clip (x0 (ix2 r q)) (x1 (ix2 r 0)) := by
  unfold Spec.clip
  pointwise [k0_pay1]

/-- The convolution result that the region stores, entry by entry. -/
theorem pay2_apply (v0 : Vec Ideal S12288x3840 .f32) (v2 : Vec Ideal S12288x1 .f32) (v13 : Vec Ideal S3840x3072 .fp8e4m3)
    (v17 : Vec Ideal S12288x1 .f32) (v21 v25 : Vec Ideal S1x3072 .f32) (r : Fin 12288) (j : Fin 3072) :
    k0_pay2 v0 v2 v13 v17 v21 v25 (ix2 r j)
      = Spec.gelu ((∑ q : Fin 3840, k0_pay1 v0 v2 (ix2 r q) * v13 (ix2 q j)) * v17 (ix2 r 0) * v21 (ix2 0 j) + v25 (ix2 0 j)) := by
  unfold Spec.gelu
  pointwise [k0_pay2]

/-- Each operand is one block, the whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] := (by decide +kernel : ∀ t : Fin grid0.N, _)

variable (m : (ℓ : Loc nD τ sig) → Buf (Elt Ideal) ℓ) (c : Dev nD)

abbrev X : Fin 3 → Fin 8192 → Fin 1280 → EReal := fun b s q => (m ((c : Thread nD τ).loc main_arg0) : FVec Ideal S3x8192x1280 .bf16) (ix3 b s q)
abbrev W : Fin 3072 → Fin 1280 → Fin 3 → EReal := fun j i k => (m ((c : Thread nD τ).loc main_arg1) : FVec Ideal S3072x1280x3 .fp8e4m3) (ix3 j i k)
abbrev s2 : Fin 3072 → EReal := fun j => (m ((c : Thread nD τ).loc main_arg2) : FVec Ideal S3072 .f32) (ix1 j)
abbrev s3 : Fin 3072 → EReal := fun j => (m ((c : Thread nD τ).loc main_arg3) : FVec Ideal S3072 .f32) (ix1 j)

/-- The windows as rows, entry by entry. -/
theorem v29_apply (r : Fin 12288) (q : Fin 3840) :
    (V m c main_v29 : FVec Ideal S12288x3840 .f32) (ix2 r q) = Spec.win (X m c) (bat r) (row r) q := by
  rw [V_v29, ← rows_apply]
  generalize rows _ = a
  pointwise

/-- The column of scales, entry by entry. -/
theorem v31_apply (r : Fin 12288) :
    (V m c main_v31 : FVec Ideal S12288x1 .f32) (ix2 r 0) = Scale.rscale (Spec.ratio (X m c) (bat r) (row r)) := by
  rw [V_v31, Scale.rscale, ← exps_apply, ← scalesOf_apply]
  generalize scalesOf _ = a
  pointwise

/-- The column of inverse scales, entry by entry. -/
theorem v30_apply (r : Fin 12288) :
    (V m c main_v30 : FVec Ideal S12288x1 .f32) (ix2 r 0) = Scale.rinv (Spec.ratio (X m c) (bat r) (row r)) := by
  rw [V_v30, Scale.rinv, ← exps_apply, ← invsOf_apply]
  generalize invsOf _ = a
  pointwise

/-- The scales in blocks, entry by entry. -/
theorem v28_apply (t : Fin 24) (k : Fin 4) (l : Fin 128) :
    (V m c main_v28 : FVec Ideal S24x4x128 .f32) (ix3 t k l)
      = Scale.rscale (Spec.ratio (X m c) (bat ⟨512 * t.val + 128 * k.val + l.val, by omega⟩)
          (row ⟨512 * t.val + 128 * k.val + l.val, by omega⟩)) := by
  rw [V_v28, Scale.rscale, ← exps_apply, ← scalesOf_apply]
  generalize scalesOf _ = a
  pointwise
  exact congrArg₂ (fun b r => a (ix2 b r)) (Fin.ext (by dsimp only; omega)) (Fin.ext (by dsimp only; omega))

/-- The weights as one matrix, entry by entry. -/
theorem v27_apply (q : Fin 3840) (j : Fin 3072) :
    (V m c main_v27 : FVec Ideal S3840x3072 .fp8e4m3) (ix2 q j)
      = W m c j ⟨q.val % 1280, Nat.mod_lt _ (by norm_num)⟩ ⟨q.val / 1280, by omega⟩ := by
  rw [V_v27]
  pointwise

/-- The weights' scales as a row, entry by entry. -/
theorem v32_apply (j : Fin 3072) : (V m c main_v32 : FVec Ideal S1x3072 .f32) (ix2 0 j) = s2 m c j := by
  rw [V_v32]
  pointwise

/-- The bias as a row, entry by entry. -/
theorem v33_apply (j : Fin 3072) : (V m c main_v33 : FVec Ideal S1x3072 .f32) (ix2 0 j) = s3 m c j := by
  rw [V_v33]
  pointwise

/-- The region reads all the windows. -/
theorem ib0 (r : Fin 12288) (q : Fin 3840) : (iblk m c 0 t0_0 : Vec Ideal S12288x3840 .f32) (ix2 r q) = V m c main_v29 (ix2 r q) := by
  blk_ext [iblk, idx t0_0]

/-- The one block of the inverse scales begins at their origin. -/
theorem emb1 (y : (win0_1.xblock (grid0.coords t0_0)).Idx) (a : Fin win0_1.shape.rank) : (((win0_1.rect t0_0).emb y) a : Nat) = y a :=
  Pipeline.Window.rect_emb_val_of_index_zero win0_1 t0_0 a (by rw [(idx t0_0).2.1]; fin_cases a <;> rfl) y
/-- The one block of the scales begins at their origin. -/
theorem emb2 (y : (win0_2.xblock (grid0.coords t0_0)).Idx) (a : Fin win0_2.shape.rank) : (((win0_2.rect t0_0).emb y) a : Nat) = y a :=
  Pipeline.Window.rect_emb_val_of_index_zero win0_2 t0_0 a (by rw [(idx t0_0).2.2.1]; fin_cases a <;> rfl) y

/-- The one block of a window over a column of 12288 numbers reads the column. -/
theorem read1 (v : Vec Ideal S12288x1 .f32) (y : S12288x1.Idx) :
    (View.read (Elt Ideal) (win0_1.blk t0_0).view v : Vec Ideal S12288x1 .f32) y = v y := by
  show v ((win0_1.rect t0_0).emb y) = v y
  exact congrArg v (funext fun a => Fin.ext (emb1 y a))
/-- Reading the one block of the scales reads all of them. -/
theorem read2 (v : Vec Ideal S12288x1 .f32) (y : S12288x1.Idx) :
    (View.read (Elt Ideal) (win0_2.blk t0_0).view v : Vec Ideal S12288x1 .f32) y = v y := by
  show v ((win0_2.rect t0_0).emb y) = v y
  exact congrArg v (funext fun a => Fin.ext (emb2 y a))

/-- The region reads all the inverse scales. -/
theorem ib1 (r : Fin 12288) : (iblk m c 1 t0_0 : Vec Ideal S12288x1 .f32) (ix2 r 0) = V m c main_v30 (ix2 r 0) := read1 _ _
/-- The region reads all the scales. -/
theorem ib2 (r : Fin 12288) : (iblk m c 2 t0_0 : Vec Ideal S12288x1 .f32) (ix2 r 0) = V m c main_v31 (ix2 r 0) := read2 _ _
/-- The region reads all the weights. -/
theorem ib3 (q : Fin 3840) (j : Fin 3072) : (iblk m c 3 t0_0 : Vec Ideal S3840x3072 .fp8e4m3) (ix2 q j) = V m c main_v27 (ix2 q j) := by
  blk_ext [iblk, idx t0_0]
/-- The region reads all the weights' scales. -/
theorem ib4 (j : Fin 3072) : (iblk m c 4 t0_0 : Vec Ideal S1x3072 .f32) (ix2 0 j) = V m c main_v32 (ix2 0 j) := by
  blk_ext [iblk, idx t0_0]
/-- The region reads all the bias. -/
theorem ib5 (j : Fin 3072) : (iblk m c 5 t0_0 : Vec Ideal S1x3072 .f32) (ix2 0 j) = V m c main_v33 (ix2 0 j) := by
  blk_ext [iblk, idx t0_0]

/-- The codes of the region are those of the specification. -/
theorem pay1_arr (r : Fin 12288) (q : Fin 3840) :
    k0_pay1 (iblk m c 0 t0_0) (iblk m c 1 t0_0) (ix2 r q) = Spec.code (X m c) (bat r) (row r) q := by
  rw [pay1_apply, ib0, ib1, v29_apply, v30_apply, Spec.code]

/-- The second result holds the codes of the specification. -/
theorem arr7 : (dats m 0 c).arrAt 7 cfg0.N = fun y => Spec.code (X m c) (bat (y 0)) (row (y 0)) (y 1) := by
  refine (dats m 0 c).arrAt_eq_of_after_last 7 t0_0 (by decide +kernel) _ fun j => ?_
  blk_simp
  rw [after0_7]
  frame_out
  obtain ⟨r, q, rfl⟩ : ∃ (r : Fin 12288) (q : Fin 3840), j = ix2 r q := ⟨j 0, j 1, eq_ix2 j⟩
  exact pay1_arr m c r q

/-- The first result holds the convolution of the specification. -/
theorem arr6 : (dats m 0 c).arrAt 6 cfg0.N = fun y => Spec.out (X m c) (W m c) (s2 m c) (s3 m c) (bat (y 0)) (row (y 0)) (y 1) := by
  refine (dats m 0 c).arrAt_eq_of_after_last 6 t0_0 (by decide +kernel) _ fun j => ?_
  blk_simp
  rw [after0_6]
  frame_out
  obtain ⟨r, n, rfl⟩ : ∃ (r : Fin 12288) (n : Fin 3072), j = ix2 r n := ⟨j 0, j 1, eq_ix2 j⟩
  refine (pay2_apply _ _ _ _ _ _ r n).trans ?_
  rw [ib2, ib4, ib5, v31_apply, v32_apply, v33_apply]
  show _ = Spec.out _ _ _ _ (bat r) (row r) n
  unfold Spec.out
  refine congrArg Spec.gelu (congrArg (· + _) (congrArg (· * _) (congrArg (· * _) (Finset.sum_congr rfl fun q _ => ?_))))
  rw [pay1_arr, ib3, v27_apply]

end Cert.ReferenceIdeal.Hand
-- ==== Proof.RefRun.lean ====
/-
  The reference's run at the extended reals: it ends with the specification in its three results.
-/
module

public import proofs.«01_k».proof.Proof.RefOut

@[expose] public section

set_option maxRecDepth 16384

noncomputable section

namespace Cert.ReferenceIdeal.Hand

open Cert.ReferenceIdeal.Gen
open Cert.Spec (bat row scaleAt)
open Idealize.ShloMosaic Idealize.ShloMosaic.TcCoe Idealize.ShloMosaic.Tactic Idealize.SL.Sem

variable (m : (ℓ : Loc nD τ sig) → Buf (Elt Ideal) ℓ) (ρ : Dev nD → PrngReg)

/-- The array of scales, whole. -/
theorem v28_eq (c : Dev nD) : V m c main_v28 = fun y => scaleAt (X m c) (y 0) (y 1) (y 2) := by
  funext y
  obtain ⟨t, k, l, rfl⟩ : ∃ (t : Fin 24) (k : Fin 4) (l : Fin 128), y = ix3 t k l := ⟨y 0, y 1, y 2, eq_ix3 y⟩
  exact v28_apply m c t k l

/-- Each result holds the specification and the arguments end unchanged. -/
theorem run_spec :
    θ_run (defs (F := Ideal)) (onTc (τ := τ) (main (F := Ideal))) ⟨m, fun _ => 0, ρ⟩ (fun r => ∀ c : Dev nD,
      r.2.mem ((c.tc : Thread nD τ).loc main_v34_0) = (fun y => Spec.out (X m c) (W m c) (s2 m c) (s3 m c) (bat (y 0)) (row (y 0)) (y 1))
      ∧ r.2.mem ((c.tc : Thread nD τ).loc main_v34_1) = (fun y => Spec.code (X m c) (bat (y 0)) (row (y 0)) (y 1))
      ∧ r.2.mem ((c.tc : Thread nD τ).loc main_v28) = (fun y => scaleAt (X m c) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ?_) (θ_run_and (unchanged m ρ) (run_main m ρ))
  exact ⟨(h.2.out_eq c 6).trans (arr6 m c), (h.2.out_eq c 7).trans (arr7 m c), (h.2.rest_eq c main_v28 (by decide)).trans (v28_eq m c), h.1 c⟩

end Cert.ReferenceIdeal.Hand

end
-- ==== Proof.Range.lean ====
/-
  The precondition bounds every entry of the activations, and so every window's ratio.
-/
module

public import proofs.«01_k».proof.Pre_finite
public import proofs.«01_k».proof.Proof.Gen.Pre_finite
public import proofs.«01_k».proof.Proof.KerBlock
public import Idealize.ShloMosaic.Lib.ReduceAll

@[expose] public section

set_option maxRecDepth 16384

noncomputable section

namespace Cert.Range

open Idealize.ShloMosaic Idealize.ShloMosaic.Tactic

/-- The value of a word of exponent width 8 that is positive and normal, by its fields. -/
theorem ieee_normal {w : ℕ} (m : ℕ) (b : BitVec w) (x f : ℕ) (h1 : b.extractLsb' (8 + m) 1 = 0#1) (h2 : (b.extractLsb' m 8).toNat = x)
    (h3 : (b.extractLsb' 0 m).toNat = f) (hx0 : x ≠ 0) (hx1 : x ≠ 255) :
    Ideal.ieee 8 m b = (((2 ^ m + f : ℕ) * (2 : ℝ) ^ ((x : ℤ) - 127 - m) : ℝ) : EReal) := by
  unfold Ideal.ieee
  rw [h1, h2, h3]
  dsimp only
  rw [if_neg (by simpa using hx1), if_neg hx0]
  congr 1
  norm_num

/-- The bound of the precondition. -/
theorem bound_bf16 : Ideal.ofBits .bf16 0x7F7F#16 = ((255 * (2 : ℝ) ^ (120 : ℤ) : ℝ) : EReal) := by
  show Ideal.ieee 8 7 0x7F7F#16 = _
  rw [ieee_normal 7 _ 254 127 (by decide +kernel) (by decide +kernel) (by decide +kernel) (by norm_num) (by norm_num)]
  norm_num

/-- The factor by which the greatest magnitude is divided by 448. -/
theorem factor_f32 : Ideal.ofBits .f32 0x3B124925#32 = ((9586981 * (2 : ℝ) ^ (-32 : ℤ) : ℝ) : EReal) := by
  show Ideal.ieee 8 23 0x3B124925#32 = _
  rw [ieee_normal 23 _ 118 1198373 (by decide +kernel) (by decide +kernel) (by decide +kernel) (by norm_num) (by norm_num)]
  norm_num

/-- The float of these bits is minus infinity. -/
theorem bot_f32 : Ideal.ofBits .f32 0xFF800000#32 = ⊥ := by simp [Ideal.ofBits, Ideal.ieee]

/-- A magnitude is not negative. -/
theorem mag_nonneg (x : EReal) : 0 ≤ Spec.mag x := by
  show (0 : EReal) ≤ max x (-x)
  rcases le_total 0 x with h | h
  · exact le_max_of_le_left h
  · exact le_max_of_le_right (by simpa using EReal.neg_le_neg_iff.2 h)

/-- If every entry is bounded, so is every window's entry. -/
theorem mag_win_le {X : Fin 3 → Fin 8192 → Fin 1280 → EReal} {B : EReal} (hB : 0 ≤ B) (h : ∀ b s q, Spec.mag (X b s q) ≤ B)
    (b : Fin 3) (r : Fin 4096) (q : Fin 3840) : Spec.mag (Spec.win X b r q) ≤ B := by
  unfold Spec.win
  split
  · split
    · exact h _ _ _
    · show max (0 : EReal) (-0) ≤ B
      simpa using hB
  · split
    · exact h _ _ _
    · exact h _ _ _

/-- If every entry is at most the precondition's bound, every ratio is in range. -/
theorem small_of_bound (X : Fin 3 → Fin 8192 → Fin 1280 → EReal) (h : ∀ b s q, Spec.mag (X b s q) ≤ Ideal.ofBits .bf16 0x7F7F#16) :
    Cert.KernelIdeal.Hand.Small X := by
  intro b r
  rw [Spec.ratio, factor_f32, bot_f32]
  have hc : (0 : EReal) ≤ ((9586981 * (2 : ℝ) ^ (-32 : ℤ) : ℝ) : EReal) := EReal.coe_nonneg.2 (by positivity)
  have hB : (0 : EReal) ≤ ((255 * (2 : ℝ) ^ (120 : ℤ) : ℝ) : EReal) := EReal.coe_nonneg.2 (by positivity)
  rw [bound_bf16] at h
  constructor
  · refine mul_nonneg ?_ hc
    exact (Finset.le_fold_max _).2 (Or.inr ⟨0, Finset.mem_univ _, mag_nonneg _⟩)
  · refine lt_of_le_of_lt (mul_le_mul_of_nonneg_right ((Finset.fold_max_le _).2 ⟨bot_le, fun q _ => mag_win_le hB h b r q⟩) hc) ?_
    rw [← EReal.coe_mul, EReal.coe_lt_coe_iff]
    norm_num

instance : Subsingleton Cert.Pre_finite.S_.Idx := ⟨fun a b => funext fun i => i.elim0⟩

/-- The precondition says that every entry is at most the bound. -/
theorem bound_of_pre (a : FVec Ideal Cert.Pre_finite.S3x8192x1280 .bf16) (a1 : FVec Ideal Cert.Pre_finite.S3072x1280x3 .fp8e4m3)
    (a2 a3 : FVec Ideal Cert.Pre_finite.S3072 .f32) [Cert.Pre_finite.Facts]
    (h : Cert.Pre_finite.fn (F := Ideal) a a1 a2 a3 = fun _ => 1#1) (b : Fin 3) (s : Fin 8192) (q : Fin 1280) :
    Spec.mag (a (ix3 b s q)) ≤ Ideal.ofBits .bf16 0x7F7F#16 := by
  have e := Host.reduce_andi_all _ _ _ _ _ (congrFun h (fun i => i.elim0)) (ix3 b s q)
  have e' : BitVec.ofBool (decide (Spec.mag (a (ix3 b s q)) ≤ Ideal.ofBits .bf16 0x7F7F#16)) = 1#1 := e
  by_contra hn
  rw [decide_eq_false hn] at e'
  exact absurd e' (by decide)

end Cert.Range

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.KernelFrame
public import proofs.«01_k».proof.Proof.KerRun
public import proofs.«01_k».proof.Proof.RefRun
public import proofs.«01_k».proof.Proof.Range
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- Under the precondition both programs end with the specification in their results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  have hX : ∀ c, Cert.KernelIdeal.Hand.Small (Cert.KernelIdeal.Hand.X m c) := fun c =>
    Cert.Range.small_of_bound _ (@Cert.Range.bound_of_pre _ _ _ _ Cert.Pre_finite.Gen.facts (hpre c))
  refine ⟨_, _, _, Cert.KernelIdeal.Hand.run_spec m g hX, ?_⟩
  have e : ∀ c, Cert.ReferenceIdeal.Hand.X m' c = Cert.KernelIdeal.Hand.X m c ∧ Cert.ReferenceIdeal.Hand.W m' c = Cert.KernelIdeal.Hand.W m c
      ∧ Cert.ReferenceIdeal.Hand.s2 m' c = Cert.KernelIdeal.Hand.s2 m c ∧ Cert.ReferenceIdeal.Hand.s3 m' c = Cert.KernelIdeal.Hand.s3 m c := fun c => by
    obtain ⟨h0, h1, h2, h3⟩ := hag c
    exact ⟨funext fun b => funext fun s => funext fun q => congrFun h0 (ix3 b s q),
      funext fun j => funext fun i => funext fun k => congrFun h1 (ix3 j i k),
      funext fun j => congrFun h2 (ix1 j), funext fun j => congrFun h3 (ix1 j)⟩
  refine (θ_run _ _ _).mono (fun r h c => ?_) (Cert.ReferenceIdeal.Hand.run_spec m' g')
  obtain ⟨e0, e1, e2, e3⟩ := e c
  have k := h c
  rw [e0, e1, e2, e3] at k
  exact k

/-- Everything claimed: the three frames, the step to the ideal program, and the equality of the results. -/
theorem claim : Cert.Claim := ⟨Cert.Kernel.Gen.facts, Cert.KernelIdeal.Gen.facts, Cert.ReferenceIdeal.Gen.facts, Cert.Pre_finite.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  IdealRules.bf16_pair.statement Cert.KernelIdeal.S64x1280 Cert.KernelIdeal.S32x1280,
  algebraic⟩

end Cert.Proof

end
